-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x128x2048 : Shape := ⟨3, ![1, 128, 2048]⟩
abbrev S2048x5632 : Shape := ⟨2, ![2048, 5632]⟩
abbrev S5632 : Shape := ⟨1, ![5632]⟩
abbrev S7x512x5632 : Shape := ⟨3, ![7, 512, 5632]⟩
abbrev S7x256x5632 : Shape := ⟨3, ![7, 256, 5632]⟩
abbrev S7x16x5632 : Shape := ⟨3, ![7, 16, 5632]⟩
abbrev S8 : Shape := ⟨1, ![8]⟩
abbrev S_ : Shape := ⟨0, ![]⟩

class Facts : Prop where
  bitsLt_bf16_f32 : FTy.bits .bf16 < FTy.bits .f32
  bcast_S_S1x128x2048 : S_.BroadcastsInDim S1x128x2048 (![] : Fin 0 → Fin S1x128x2048.rank)
  reducesTo_S1x128x2048_S_d0_1_2 : S1x128x2048.ReducesTo [0, 1, 2] S_
  h_S_ : 0 < S_.numel
  natLt_8_32 : 8 < 32
  bcast_S_S7x256x5632 : S_.BroadcastsInDim S7x256x5632 (![] : Fin 0 → Fin S7x256x5632.rank)
  reducesTo_S7x256x5632_S_d0_1_2 : S7x256x5632.ReducesTo [0, 1, 2] S_

variable [Facts]

def fn_part1 {F : FTy → Type} [FloatOps F] (main_v4 : IVec S_ 1) (main_v5 : IVec S7x256x5632 32) (main_v12 : IVec S7x256x5632 1) (main_v16 : IVec S7x256x5632 32) : IVec S_ 1 :=
  let main_c_5 : IVec S_ 32 := constantI S_ 32 6#32
  let main_v17 : IVec S7x256x5632 32 := broadcastInDim S7x256x5632 ![] bcast_S_S7x256x5632 main_c_5
  let main_v18 : IVec S7x256x5632 32 := Host.shrsi main_v5 main_v17
  let main_v19 : IVec S7x256x5632 1 := cmpi .ne main_v16 main_v18
  let main_v20 : IVec S7x256x5632 1 := andi main_v12 main_v19
  let main_c_6 : IVec S_ 1 := constantI S_ 1 1#1
  let main_v21 : IVec S_ 1 := (fun x v => Host.reduce IntOp.andi x v reducesTo_S7x256x5632_S_d0_1_2 h_S_) main_v20 main_c_6
  let main_v22 : IVec S_ 1 := andi main_v4 main_v21
  main_v22

def fn {F : FTy → Type} [FloatOps F] (main_arg0 : FVec F S1x128x2048 .bf16) (main_arg1 : FVec F S2048x5632 .fp8e4m3) (main_arg2 : FVec F S5632 .f32) (main_arg3 : IVec S7x512x5632 8) (main_arg4 : IVec S7x256x5632 8) (main_arg5 : FVec F S7x16x5632 .bf16) (main_arg6 : IVec S8 32) : IVec S_ 1 :=
  let main_v0 : FVec F S1x128x2048 .bf16 := Host.absf main_arg0
  let main_v1 : FVec F S1x128x2048 .f32 := (extf .f32 · bitsLt_bf16_f32) main_v0
  let main_cst : FVec F S_ .f32 := constant S_ .f32 0x7F7F0000#32
  let main_v2 : FVec F S1x128x2048 .f32 := broadcastInDim S1x128x2048 ![] bcast_S_S1x128x2048 main_cst
  let main_v3 : IVec S1x128x2048 1 := cmpf .ole main_v1 main_v2
  let main_c : IVec S_ 1 := constantI S_ 1 1#1
  let main_v4 : IVec S_ 1 := (fun x v => Host.reduce IntOp.andi x v reducesTo_S1x128x2048_S_d0_1_2 h_S_) main_v3 main_c
  let main_v5 : IVec S7x256x5632 32 := (extui 32 · natLt_8_32) main_arg4
  let main_c_0 : IVec S_ 32 := constantI S_ 32 3#32
  let main_v6 : IVec S7x256x5632 32 := broadcastInDim S7x256x5632 ![] bcast_S_S7x256x5632 main_c_0
  let main_v7 : IVec S7x256x5632 32 := andi main_v5 main_v6
  let main_c_1 : IVec S_ 32 := constantI S_ 32 2#32
  let main_v8 : IVec S7x256x5632 32 := broadcastInDim S7x256x5632 ![] bcast_S_S7x256x5632 main_c_1
  let main_v9 : IVec S7x256x5632 32 := Host.shrsi main_v5 main_v8
  let main_c_2 : IVec S_ 32 := constantI S_ 32 3#32
  let main_v10 : IVec S7x256x5632 32 := broadcastInDim S7x256x5632 ![] bcast_S_S7x256x5632 main_c_2
  let main_v11 : IVec S7x256x5632 32 := andi main_v9 main_v10
  let main_v12 : IVec S7x256x5632 1 := cmpi .ne main_v7 main_v11
  let main_c_3 : IVec S_ 32 := constantI S_ 32 4#32
  let main_v13 : IVec S7x256x5632 32 := broadcastInDim S7x256x5632 ![] bcast_S_S7x256x5632 main_c_3
  let main_v14 : IVec S7x256x5632 32 := Host.shrsi main_v5 main_v13
  let main_c_4 : IVec S_ 32 := constantI S_ 32 3#32
  let main_v15 : IVec S7x256x5632 32 := broadcastInDim S7x256x5632 ![] bcast_S_S7x256x5632 main_c_4
  let main_v16 : IVec S7x256x5632 32 := andi main_v14 main_v15
  fn_part1 (F := F) main_v4 main_v5 main_v12 main_v16
-- ==== Kernel.lean ====
abbrev S1x128x2048 : Shape := ⟨3, ![1, 128, 2048]⟩
abbrev S2048x5632 : Shape := ⟨2, ![2048, 5632]⟩
abbrev S5632 : Shape := ⟨1, ![5632]⟩
abbrev S7x512x5632 : Shape := ⟨3, ![7, 512, 5632]⟩
abbrev S7x256x5632 : Shape := ⟨3, ![7, 256, 5632]⟩
abbrev S7x16x5632 : Shape := ⟨3, ![7, 16, 5632]⟩
abbrev S8 : Shape := ⟨1, ![8]⟩
abbrev S128x2048 : Shape := ⟨2, ![128, 2048]⟩
abbrev S1x5632 : Shape := ⟨2, ![1, 5632]⟩
abbrev S128x5632 : Shape := ⟨2, ![128, 5632]⟩
abbrev S1x128 : Shape := ⟨2, ![1, 128]⟩
abbrev S2048x512 : Shape := ⟨2, ![2048, 512]⟩
abbrev S1x512 : Shape := ⟨2, ![1, 512]⟩
abbrev S1x512x512 : Shape := ⟨3, ![1, 512, 512]⟩
abbrev S1 : Shape := ⟨1, ![1]⟩
abbrev S1x256x512 : Shape := ⟨3, ![1, 256, 512]⟩
abbrev S1x16x512 : Shape := ⟨3, ![1, 16, 512]⟩
abbrev S128x512 : Shape := ⟨2, ![128, 512]⟩
abbrev S7x128x2048 : Shape := ⟨3, ![7, 128, 2048]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S256x256 : Shape := ⟨2, ![256, 256]⟩
abbrev S1x64x512 : Shape := ⟨3, ![1, 64, 512]⟩
abbrev S64x512 : Shape := ⟨2, ![64, 512]⟩
abbrev S1x32x512 : Shape := ⟨3, ![1, 32, 512]⟩
abbrev S32x512 : Shape := ⟨2, ![32, 512]⟩
abbrev S16x512 : Shape := ⟨2, ![16, 512]⟩
abbrev S8x8x512 : Shape := ⟨3, ![8, 8, 512]⟩
abbrev S8x512 : Shape := ⟨2, ![8, 512]⟩
abbrev S8x1x512 : Shape := ⟨3, ![8, 1, 512]⟩
abbrev S1x1x512 : Shape := ⟨3, ![1, 1, 512]⟩

abbrev nBuf : Space → Nat
  | .hbm => 11
  | .vmem => 21
  | .smem => 1
  | _ => 0

abbrev bufTy : (tb : Table) → Fin (tcTables nBuf tb) → BufTy
  | .hbm, ⟨0, _⟩ => ⟨S1x128x2048, .bf16⟩
  | .hbm, ⟨1, _⟩ => ⟨S2048x5632, .fp8e4m3⟩
  | .hbm, ⟨2, _⟩ => ⟨S5632, .f32⟩
  | .hbm, ⟨3, _⟩ => ⟨S7x512x5632, .i8⟩
  | .hbm, ⟨4, _⟩ => ⟨S7x256x5632, .i8⟩
  | .hbm, ⟨5, _⟩ => ⟨S7x16x5632, .bf16⟩
  | .hbm, ⟨6, _⟩ => ⟨S128x2048, .bf16⟩
  | .hbm, ⟨7, _⟩ => ⟨S1x5632, .f32⟩
  | .hbm, ⟨8, _⟩ => ⟨S128x5632, .bf16⟩
  | .hbm, ⟨9, _⟩ => ⟨S128x2048, .fp8e4m3⟩
  | .hbm, ⟨10, _⟩ => ⟨S1x128, .f32⟩
  | .local _ .vmem, ⟨0, _⟩ => ⟨S128x2048, .bf16⟩
  | .local _ .vmem, ⟨1, _⟩ => ⟨S2048x512, .fp8e4m3⟩
  | .local _ .vmem, ⟨2, _⟩ => ⟨S2048x512, .fp8e4m3⟩
  | .local _ .vmem, ⟨3, _⟩ => ⟨S1x512, .f32⟩
  | .local _ .vmem, ⟨4, _⟩ => ⟨S1x512, .f32⟩
  | .local _ .vmem, ⟨5, _⟩ => ⟨S1x512x512, .i8⟩
  | .local _ .vmem, ⟨6, _⟩ => ⟨S1x512x512, .i8⟩
  | .local _ .vmem, ⟨7, _⟩ => ⟨S1x256x512, .i8⟩
  | .local _ .vmem, ⟨8, _⟩ => ⟨S1x256x512, .i8⟩
  | .local _ .vmem, ⟨9, _⟩ => ⟨S1x16x512, .bf16⟩
  | .local _ .vmem, ⟨10, _⟩ => ⟨S1x16x512, .bf16⟩
  | .local _ .vmem, ⟨11, _⟩ => ⟨S128x512, .bf16⟩
  | .local _ .vmem, ⟨12, _⟩ => ⟨S128x512, .bf16⟩
  | .local _ .vmem, ⟨13, _⟩ => ⟨S128x2048, .fp8e4m3⟩
  | .local _ .vmem, ⟨14, _⟩ => ⟨S1x128, .f32⟩
  | .local _ .vmem, ⟨15, _⟩ => ⟨S128x2048, .bf16⟩
  | .local _ .vmem, ⟨16, _⟩ => ⟨S7x128x2048, .bf16⟩
  | .local _ .vmem, ⟨17, _⟩ => ⟨S128x128, .f32⟩
  | .local _ .vmem, ⟨18, _⟩ => ⟨S128x512, .f32⟩
  | .local _ .vmem, ⟨19, _⟩ => ⟨S128x512, .f32⟩
  | .local _ .vmem, ⟨20, _⟩ => ⟨S2048x512, .bf16⟩
  | .local _ .smem, ⟨0, _⟩ => ⟨S8, .i32⟩
  | _, _ => ⟨S1x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![11, 7], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c1_i32 : BitVec 32 := 1#32
  let v0 : BitVec 32 := Scalar.addi arg1 c1_i32
  let v1 : Index := Scalar.indexCast v0
  ![v1.toNat]
def k0_off2 (i : grid0.Coords) : Fin 1 → Nat :=
  let arg1 : BitVec 32 := BitVec.ofNat 32 (i 1).val
  let v3 : Index := Scalar.indexCast arg1
  ![v3.toNat]
def k0_cond2 (i : grid0.Coords) : BitVec 1 :=
  let arg0 : BitVec 32 := BitVec.ofNat 32 (i 0).val
  let c0_i32_2 : BitVec 32 := 0#32
  let v10 : BitVec 1 := Scalar.cmpi .eq arg0 c0_i32_2
  let v11 : BitVec 32 := Scalar.extui v10
  let c0_i32_3 : BitVec 32 := 0#32
  let v12 : BitVec 1 := Scalar.cmpi .ne v11 c0_i32_3
  v12

def k0_off3 (i : grid0.Coords) : Fin 3 → Nat :=
  let arg1 : BitVec 32 := BitVec.ofNat 32 (i 1).val
  let v33 : Index := Scalar.indexCast arg1
  let c0_9 : Index := 0#32
  let c0_10 : Index := 0#32
  ![v33.toNat, 0, 0]
def k0_off4 (i : grid0.Coords) : Fin 3 → Nat :=
  let arg1 : BitVec 32 := BitVec.ofNat 32 (i 1).val
  let v1423 : Index := Scalar.indexCast arg1
  let c0_469 : Index := 0#32
  let c0_470 : Index := 0#32
  ![v1423.toNat, 0, 0]
def k0_cond5 (i : grid0.Coords) : BitVec 1 :=
  let arg1 : BitVec 32 := BitVec.ofNat 32 (i 1).val
  let c6_i32 : BitVec 32 := 6#32
  let v19 : BitVec 1 := Scalar.cmpi .eq arg1 c6_i32
  let v20 : BitVec 32 := Scalar.extui v19
  let c0_i32_7 : BitVec 32 := 0#32
  let v21 : BitVec 1 := Scalar.cmpi .ne v20 c0_i32_7
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (k0_off1_inb : ∀ i : grid0.Coords, ∀ a, (k0_off1 i) a + S1.size a ≤ S8.size a) (numel1_S1 : S1.numel = 1) (k0_off2_inb : ∀ i : grid0.Coords, ∀ a, (k0_off2 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let v1 : Index := Scalar.indexCast v0
  let v2 : BitVec 32 := pf.at 0 (Rect.unit (s := S8) ![v1.toNat] S1.size (k0_off1_inb i)) numel1_S1
  let v3 : Index := Scalar.indexCast arg1
  let v4 : BitVec 32 := pf.at 0 (Rect.unit (s := S8) ![v3.toNat] S1.size (k0_off2_inb i)) numel1_S1
  let v5 : BitVec 1 := Scalar.cmpi .sgt v2 v4
  let c1_i32_0 : BitVec 32 := 1#32
  let v6 : BitVec 32 := Scalar.subi arg1 c1_i32_0
  let c0_i32 : BitVec 32 := 0#32
  let v7 : BitVec 32 := Scalar.maxsi v6 c0_i32
  let v8 : BitVec 32 := Scalar.select v5 arg1 v7
  let c0_i32_1 : BitVec 32 := 0#32
  let c0_i32_2 : BitVec 32 := 0#32
  ![v8.toNat, c0_i32_1.toNat, arg0.toNat]

def cc0_transform_4 (k0_off1_inb : ∀ i : grid0.Coords, ∀ a, (k0_off1 i) a + S1.size a ≤ S8.size a) (numel1_S1 : S1.numel = 1) (k0_off2_inb : ∀ i : grid0.Coords, ∀ a, (k0_off2 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let v1 : Index := Scalar.indexCast v0
  let v2 : BitVec 32 := pf.at 0 (Rect.unit (s := S8) ![v1.toNat] S1.size (k0_off1_inb i)) numel1_S1
  let v3 : Index := Scalar.indexCast arg1
  let v4 : BitVec 32 := pf.at 0 (Rect.unit (s := S8) ![v3.toNat] S1.size (k0_off2_inb i)) numel1_S1
  let v5 : BitVec 1 := Scalar.cmpi .sgt v2 v4
  let c1_i32_0 : BitVec 32 := 1#32
  let v6 : BitVec 32 := Scalar.subi arg1 c1_i32_0
  let c0_i32 : BitVec 32 := 0#32
  let v7 : BitVec 32 := Scalar.maxsi v6 c0_i32
  let v8 : BitVec 32 := Scalar.select v5 arg1 v7
  let c0_i32_1 : BitVec 32 := 0#32
  let c0_i32_2 : BitVec 32 := 0#32
  ![v8.toNat, c0_i32_1.toNat, arg0.toNat]

def cc0_transform_5 (k0_off1_inb : ∀ i : grid0.Coords, ∀ a, (k0_off1 i) a + S1.size a ≤ S8.size a) (numel1_S1 : S1.numel = 1) (k0_off2_inb : ∀ i : grid0.Coords, ∀ a, (k0_off2 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let v1 : Index := Scalar.indexCast v0
  let v2 : BitVec 32 := pf.at 0 (Rect.unit (s := S8) ![v1.toNat] S1.size (k0_off1_inb i)) numel1_S1
  let v3 : Index := Scalar.indexCast arg1
  let v4 : BitVec 32 := pf.at 0 (Rect.unit (s := S8) ![v3.toNat] S1.size (k0_off2_inb i)) numel1_S1
  let v5 : BitVec 1 := Scalar.cmpi .sgt v2 v4
  let c1_i32_0 : BitVec 32 := 1#32
  let v6 : BitVec 32 := Scalar.subi arg1 c1_i32_0
  let c0_i32 : BitVec 32 := 0#32
  let v7 : BitVec 32 := Scalar.maxsi v6 c0_i32
  let v8 : BitVec 32 := Scalar.select v5 arg1 v7
  let c0_i32_1 : BitVec 32 := 0#32
  let c0_i32_2 : BitVec 32 := 0#32
  ![v8.toNat, c0_i32_1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S1x128x2048 : Shape := ⟨3, ![1, 128, 2048]⟩
abbrev S2048x5632 : Shape := ⟨2, ![2048, 5632]⟩
abbrev S5632 : Shape := ⟨1, ![5632]⟩
abbrev S7x512x5632 : Shape := ⟨3, ![7, 512, 5632]⟩
abbrev S7x256x5632 : Shape := ⟨3, ![7, 256, 5632]⟩
abbrev S7x16x5632 : Shape := ⟨3, ![7, 16, 5632]⟩
abbrev S8 : Shape := ⟨1, ![8]⟩
abbrev S128x2048 : Shape := ⟨2, ![128, 2048]⟩
abbrev S1x5632 : Shape := ⟨2, ![1, 5632]⟩
abbrev S128x5632 : Shape := ⟨2, ![128, 5632]⟩
abbrev S1x128 : Shape := ⟨2, ![1, 128]⟩
abbrev S128 : Shape := ⟨1, ![128]⟩
abbrev S128x1 : Shape := ⟨2, ![128, 1]⟩
abbrev S128x256 : Shape := ⟨2, ![128, 256]⟩
abbrev S1x512x5632 : Shape := ⟨3, ![1, 512, 5632]⟩
abbrev S512x5632 : Shape := ⟨2, ![512, 5632]⟩
abbrev S512x1x5632 : Shape := ⟨3, ![512, 1, 5632]⟩
abbrev S512x4x5632 : Shape := ⟨3, ![512, 4, 5632]⟩
abbrev S1x256x5632 : Shape := ⟨3, ![1, 256, 5632]⟩
abbrev S256x5632 : Shape := ⟨2, ![256, 5632]⟩
abbrev S256x1x5632 : Shape := ⟨3, ![256, 1, 5632]⟩
abbrev S256x8x5632 : Shape := ⟨3, ![256, 8, 5632]⟩
abbrev S1x16x5632 : Shape := ⟨3, ![1, 16, 5632]⟩
abbrev S16x5632 : Shape := ⟨2, ![16, 5632]⟩
abbrev S16x1x5632 : Shape := ⟨3, ![16, 1, 5632]⟩
abbrev S16x128x5632 : Shape := ⟨3, ![16, 128, 5632]⟩
abbrev S1 : Shape := ⟨1, ![1]⟩

abbrev nBuf : Space → Nat
  | .hbm => 12
  | .vmem => 9
  | .smem => 1
  | _ => 0

abbrev bufTy : (tb : Table) → Fin (tcTables nBuf tb) → BufTy
  | .hbm, ⟨0, _⟩ => ⟨S1x128x2048, .bf16⟩
  | .hbm, ⟨1, _⟩ => ⟨S2048x5632, .fp8e4m3⟩
  | .hbm, ⟨2, _⟩ => ⟨S5632, .f32⟩
  | .hbm, ⟨3, _⟩ => ⟨S7x512x5632, .i8⟩
  | .hbm, ⟨4, _⟩ => ⟨S7x256x5632, .i8⟩
  | .hbm, ⟨5, _⟩ => ⟨S7x16x5632, .bf16⟩
  | .hbm, ⟨6, _⟩ => ⟨S8, .i32⟩
  | .hbm, ⟨7, _⟩ => ⟨S128x2048, .bf16⟩
  | .hbm, ⟨8, _⟩ => ⟨S1x5632, .f32⟩
  | .hbm, ⟨9, _⟩ => ⟨S128x5632, .bf16⟩
  | .hbm, ⟨10, _⟩ => ⟨S128x2048, .fp8e4m3⟩
  | .hbm, ⟨11, _⟩ => ⟨S1x128, .f32⟩
  | .local _ .vmem, ⟨0, _⟩ => ⟨S128x2048, .bf16⟩
  | .local _ .vmem, ⟨1, _⟩ => ⟨S2048x5632, .fp8e4m3⟩
  | .local _ .vmem, ⟨2, _⟩ => ⟨S1x5632, .f32⟩
  | .local _ .vmem, ⟨3, _⟩ => ⟨S7x512x5632, .i8⟩
  | .local _ .vmem, ⟨4, _⟩ => ⟨S7x256x5632, .i8⟩
  | .local _ .vmem, ⟨5, _⟩ => ⟨S7x16x5632, .bf16⟩
  | .local _ .vmem, ⟨6, _⟩ => ⟨S128x5632, .bf16⟩
  | .local _ .vmem, ⟨7, _⟩ => ⟨S128x2048, .fp8e4m3⟩
  | .local _ .vmem, ⟨8, _⟩ => ⟨S1x128, .f32⟩
  | .local _ .smem, ⟨0, _⟩ => ⟨S8, .i32⟩
  | _, _ => ⟨S1x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x512x5632 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x256x5632 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x16x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S8 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Kit.lean ====
/- What the run of the kernel is stated over: its schedule on the grid, the contents of the buffers when the
   pipeline starts, the tenant offsets as the prefetched table, the blocks of the windows, the branch conditions of the
   body in closed form, and the staging and scratch buffers by name. -/

module

public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 77 = 0 :=
  (fun t => Pipeline.Window.fetchOf_const cc0_transform_0 (fun _ _ => rfl) (n := 77) (by decide) t : ∀ t : Fin grid0.N, Pipeline.Window.fetchOf grid0 false cc0_transform_0 t = true ↔ t.val % 77 = 0)
/-- Window 1 (operand 2 (%arg1)) is fetched at the points ≡ 0 (mod 7), at any contents of the tables (its index map reads none). -/
theorem fetch0_1 (a : (pcfg0 (F := F)).Adm) : ∀ t : Fin (cfg0 a).N, ((cfg0 a).win 1).fetch t = true ↔ t.val % 7 = 0 :=
  (fun t => Pipeline.Window.fetchOf_reads cc0_transform_1 reads0_1 hreads0_1 0 (by decide) (by decide) (Pipeline.Window.sep_of_coord cc0_transform_1 0 1 (fun _ => rfl) (by decide)) (P := 7) (by decide) t : ∀ t : Fin grid0.N, Pipeline.Window.fetchOf grid0 false cc0_transform_1 t = true ↔ t.val % 7 = 0)
/-- Window 2 (operand 3 (%1)) is fetched at the points ≡ 0 (mod 7), at any contents of the tables (its index map reads none). -/
theorem fetch0_2 (a : (pcfg0 (F := F)).Adm) : ∀ t : Fin (cfg0 a).N, ((cfg0 a).win 2).fetch t = true ↔ t.val % 7 = 0 :=
  (fun t => Pipeline.Window.fetchOf_reads cc0_transform_2 reads0_2 hreads0_2 0 (by decide) (by decide) (Pipeline.Window.sep_of_coord cc0_transform_2 0 1 (fun _ => rfl) (by decide)) (P := 7) (by decide) t : ∀ t : Fin grid0.N, Pipeline.Window.fetchOf grid0 false cc0_transform_2 t = true ↔ t.val % 7 = 0)
/-- Window 6 (result 0 (%2#0)) is written back at the points ≡ 6 (mod 7), at any contents of the tables (its index map reads none). -/
theorem flush0_6 (a : (pcfg0 (F := F)).Adm) : ∀ t : Fin (cfg0 a).N, ((cfg0 a).win 6).flush t = true ↔ t.val % 7 = 6 :=
  (fun t => Pipeline.Window.flushOf_reads cc0_transform_6 reads0_6 hreads0_6 0 (by decide) (by decide) (Pipeline.Window.sep_of_coord cc0_transform_6 0 1 (fun _ => rfl) (by decide)) (P := 7) (m := 6) (by decide) rfl t : ∀ t : Fin grid0.N, Pipeline.Window.flushOf grid0 true cc0_transform_6 t = true ↔ t.val % 7 = 6)
/-- Window 7 (result 1 (%2#1)) is written back at the last point only, at any contents of the tables (its index map reads none). -/
theorem flush0_7 (a : (pcfg0 (F := F)).Adm) : ∀ t : Fin (cfg0 a).N, ((cfg0 a).win 7).flush t = true ↔ t.val % 77 = 76 :=
  (fun t => Pipeline.Window.flushOf_const cc0_transform_7 (fun _ _ => rfl) (n := 77) (by decide) rfl t : ∀ t : Fin grid0.N, Pipeline.Window.flushOf grid0 true cc0_transform_7 t = true ↔ t.val % 77 = 76)
/-- Window 8 (result 2 (%2#2)) is written back at the last point only, at any contents of the tables (its index map reads none). -/
theorem flush0_8 (a : (pcfg0 (F := F)).Adm) : ∀ t : Fin (cfg0 a).N, ((cfg0 a).win 8).flush t = true ↔ t.val % 77 = 76 :=
  (fun t => Pipeline.Window.flushOf_const cc0_transform_8 (fun _ _ => rfl) (n := 77) (by decide) rfl t : ∀ t : Fin grid0.N, Pipeline.Window.flushOf grid0 true cc0_transform_8 t = true ↔ t.val % 77 = 76)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_delta_projection (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations write each buffer once. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      ((h c).2 main_arg2 (by decide : main_arg2 ∈ Pipeline.restRefs sig spec0)).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 77 = 0 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 77 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 7 — by arithmetic of the point. -/
theorem hcond0_1 : ∀ t : Fin grid0.N, cond0_1 (grid0.coords t) ↔ t.val < 7 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val < 7)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_2 : ∀ t : Fin grid0.N, cond0_2 (grid0.coords t) ↔ t.val % 7 = 0 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_2, e0, e1]
    word_cmp
   : ∀ t : Fin grid0.N, cond0_2 (grid0.coords t) ↔ t.val % 7 = 0)

/-- The condition of the body's `scf.if` 3: over WORDS the body reads from its tables or input SMEM windows
    (`v6`, `v9`), so no function of the point — a case variable: a hypothesis of each run, a `by_cases`
    of the obligation and an `if` of `outsAt`, stated over the argument blocks' words there. -/
abbrev cond0_3 (i : grid0.Coords) (v6 : BitVec 32) (v9 : BitVec 32) : Prop := (Scalar.cmpi .ne (Scalar.extui (Scalar.cmpi .sgt v9 v6)) 0#32) = 1#1

/-- The condition of the body's `scf.if` 4 (`k0_h5`), from the grid coordinates (the skeleton's scalar
    chain substituted). -/
abbrev cond0_4 (i : grid0.Coords) : Prop := k0_cond5 i = 1#1
/-- It holds at the points ≡ 6 (mod 7) — by arithmetic of the point. -/
theorem hcond0_4 : ∀ t : Fin grid0.N, cond0_4 (grid0.coords t) ↔ t.val % 7 = 6 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_4, k0_cond5, e0, e1]
    word_cmp
   : ∀ t : Fin grid0.N, cond0_4 (grid0.coords t) ↔ t.val % 7 = 6)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S128x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2048x512 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x512 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x512 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x16x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S128x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x2048 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S128x2048 .bf16 := Memref.whole cc0_scratch0
abbrev scM0_1 : Memref sig .tc .vmem S7x128x2048 .bf16 := Memref.whole cc0_scratch1
abbrev scM0_2 : Memref sig .tc .vmem S128x128 .f32 := Memref.whole cc0_scratch2
abbrev scM0_3 : Memref sig .tc .vmem S128x512 .f32 := Memref.whole cc0_scratch3
abbrev scM0_4 : Memref sig .tc .vmem S128x512 .f32 := Memref.whole cc0_scratch4
abbrev scM0_5 : Memref sig .tc .vmem S2048x512 .bf16 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.Kernel.Values.lean ====
/- What one point of the kernel's grid leaves in each buffer, as functions of what it found there. -/

module

public import proofs.«01_k».proof.Proof.Kernel.Kit
public import Idealize.ShloMosaic.Lib.VecWindow

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activation codes of a block of rows. -/
def codesOf (x3 : Vec F S128x2048 .bf16) : Vec F S128x2048 .fp8e4m3 := k0_pay12 (k0_pay10 x3) (k0_pay11 (F := F))

/-- The scales of the rows, as a column, as the column repeated, and as a row. -/
def colOf (x3 : Vec F S128x2048 .bf16) : FVec F S128x1 .f32 := k0_pay9 x3
/-- The scales as a tile. -/
def scOf (x3 : Vec F S128x2048 .bf16) : Vec F S128x128 .f32 := k0_pay14 (colOf x3)
/-- The scales as a row. -/
def scalesOf (x3 : Vec F S128x2048 .bf16) : Vec F S1x128 .f32 := k0_pay15 (colOf x3)

/-- The codes with their columns in the order of the dense rows: the eight stores that write them, last first. -/
def permL (x3 : Vec F S128x2048 .bf16) : List (View.Piece (Elt F) S128x2048 .bf16) :=
  let v94 := k0_pay16 (F := F)
  let v95 := k0_pay17 (k0_pay10 x3) (k0_pay11 (F := F))
  [⟨Rect.unit (s := S128x2048) ![0, 1792] S128x256.size inb_S128x2048_S128x256_0_1792, k0_pay1 (k0_pay26 v94 v95)⟩,
   ⟨Rect.unit (s := S128x2048) ![0, 1536] S128x256.size inb_S128x2048_S128x256_0_1536, k0_pay25 v94 v95⟩,
   ⟨Rect.unit (s := S128x2048) ![0, 1280] S128x256.size inb_S128x2048_S128x256_0_1280, k0_pay24 v94 v95⟩,
   ⟨Rect.unit (s := S128x2048) ![0, 1024] S128x256.size inb_S128x2048_S128x256_0_1024, k0_pay23 v94 v95⟩,
   ⟨Rect.unit (s := S128x2048) ![0, 768] S128x256.size inb_S128x2048_S128x256_0_768, k0_pay22 v94 v95⟩,
   ⟨Rect.unit (s := S128x2048) ![0, 512] S128x256.size inb_S128x2048_S128x256_0_512, k0_pay21 v94 v95⟩,
   ⟨Rect.unit (s := S128x2048) ![0, 256] S128x256.size inb_S128x2048_S128x256_0_256, k0_pay20 (k0_pay19 (k0_pay10 x3) (k0_pay11 (F := F)))⟩,
   ⟨Rect.unit (s := S128x2048) ![0, 0] S128x256.size inb_S128x2048_S128x256_0_0, k0_pay18 (k0_pay10 x3) (k0_pay11 (F := F))⟩]
/-- The permuted codes. -/
def permOf (x3 : Vec F S128x2048 .bf16) : Vec F S128x2048 .bf16 := View.canon (permL x3)

/-- The eight stores cover the array. -/
theorem perm_cover (x3 : Vec F S128x2048 .bf16) (y : S128x2048.Idx) : ∃ p ∈ permL x3, y ∈ p.1.set :=
  View.cover_of_tiledL (permL x3) S128x256.size (by sl_kernel_rfl) y

/-- The masked codes with the slot of the point's tenant replaced, and the slot of the point's tenant. -/
def slotsOf (i : grid0.Coords) (o0 o1 : Elt F .i32) (xp : Vec F S128x2048 .bf16) (xm : Vec F S7x128x2048 .bf16) : Vec F S7x128x2048 .bf16 :=
  VecWindow.put xm (k0_off3 i) S1x128x2048.size (k0_pay2 o0 o1 xp)
/-- The slot of masked codes a point reads. -/
def slotOf (i : grid0.Coords) (xm : Vec F S7x128x2048 .bf16) : Vec F S1x128x2048 .bf16 :=
  View.ld (Val := Elt F) (e' := .bf16) xm (Rect.unit (s := S7x128x2048) (k0_off4 i) S1x128x2048.size (k0_off4_inb i))

open Classical in
/-- What each buffer the body stores into holds after the body. -/
def codesAt (i : grid0.Coords) (x3 : Vec F S128x2048 .bf16) (x10 : Vec F S128x2048 .fp8e4m3) : Vec F S128x2048 .fp8e4m3 :=
  if cond0_0 i then codesOf x3 else x10
open Classical in
/-- What a point leaves in the row of scales. -/
def scalesAt (i : grid0.Coords) (x3 : Vec F S128x2048 .bf16) (x11 : Vec F S1x128 .f32) : Vec F S1x128 .f32 :=
  if cond0_0 i then scalesOf x3 else x11
open Classical in
/-- What a point leaves in the permuted codes. -/
def permAt (i : grid0.Coords) (x3 : Vec F S128x2048 .bf16) (x12 : Vec F S128x2048 .bf16) : Vec F S128x2048 .bf16 :=
  if cond0_0 i then permOf x3 else x12
open Classical in
/-- What a point leaves in the tile of scales. -/
def scAt (i : grid0.Coords) (x3 : Vec F S128x2048 .bf16) (x14 : Vec F S128x128 .f32) : Vec F S128x128 .f32 :=
  if cond0_0 i then scOf x3 else x14
open Classical in
/-- What a point leaves in the slots of masked codes. -/
def slotsAt (i : grid0.Coords) (o0 o1 : Elt F .i32) (xp : Vec F S128x2048 .bf16) (x13 : Vec F S7x128x2048 .bf16) : Vec F S7x128x2048 .bf16 :=
  if cond0_1 i then slotsOf i o0 o1 xp x13 else x13
open Classical in
/-- What a point leaves in the base product. -/
def baseAt (i : grid0.Coords) (codes : Vec F S128x2048 .fp8e4m3) (x4 : Vec F S2048x512 .fp8e4m3) (x16 : Vec F S128x512 .f32) : Vec F S128x512 .f32 :=
  if cond0_2 i then k0_pay3 codes x4 else x16
open Classical in
/-- The accumulated product a point starts from. -/
def startAt (i : grid0.Coords) (x15 : Vec F S128x512 .f32) : Vec F S128x512 .f32 :=
  if cond0_2 i then k0_pay4 else x15
open Classical in
/-- What a point leaves in the accumulated product. -/
def accAt (i : grid0.Coords) (o0 o1 : Elt F .i32) (acc : Vec F S128x512 .f32) (xm : Vec F S7x128x2048 .bf16) (dense : Vec F S2048x512 .bf16) : Vec F S128x512 .f32 :=
  if cond0_3 i o0 o1 then k0_pay5 acc (slotOf i xm) dense else acc
/-- The output block from the scale column, the base product, the base scales and the accumulated product. -/
def yOf (sc : Vec F S128x128 .f32) (base : Vec F S128x512 .f32) (x5 : Vec F S1x512 .f32) (acc : Vec F S128x512 .f32) : Vec F S128x512 .bf16 :=
  k0_pay6 (View.ld (Val := Elt F) (e' := .f32) sc (Rect.unit (s := S128x128) ![0, 0] S128x1.size inb_S128x128_S128x1_0_0)) base x5 acc
open Classical in
/-- What a point leaves in the output block. -/
def yAt (i : grid0.Coords) (sc : Vec F S128x128 .f32) (base : Vec F S128x512 .f32) (x5 : Vec F S1x512 .f32) (acc : Vec F S128x512 .f32) (x9 : Vec F S128x512 .bf16) : Vec F S128x512 .bf16 :=
  if cond0_4 i then yOf sc base x5 acc else x9

/-- The offset word the body reads first and the one it reads second, from the table's contents. -/
def word0 (c : Dev nD) (i : grid0.Coords) (xt0 : TbBuf0 (F := F) c tbM0_0) : Elt F .i32 :=
  tbM0_0.view.readAt (Elt F) (Rect.unit (s := S8) (k0_off2 i) S1.size (k0_off2_inb i)).toLoadRect xt0 (Shape.Idx.first (numel1_S1.symm ▸ Nat.one_pos))
/-- The second offset a point reads. -/
def word1 (c : Dev nD) (i : grid0.Coords) (xt0 : TbBuf0 (F := F) c tbM0_0) : Elt F .i32 :=
  tbM0_0.view.readAt (Elt F) (Rect.unit (s := S8) (k0_off1 i) S1.size (k0_off1_inb i)).toLoadRect xt0 (Shape.Idx.first (numel1_S1.symm ▸ Nat.one_pos))

/-- A load of the slot just stored reads the slot's payload out of the slots it was put in. -/
theorem slot_put (i : grid0.Coords) (v : View sig .tc .vmem S7x128x2048 .bf16) (w : Vec F S1x128x2048 .bf16) (inb) (xm : Vec F S7x128x2048 .bf16) :
    v.readCov [(⟨Rect.unit (s := S7x128x2048) (k0_off3 i) S1x128x2048.size inb, w⟩ : View.Piece (Elt F) S7x128x2048 .bf16)]
      (Rect.unit (s := S7x128x2048) (k0_off4 i) S1x128x2048.size (k0_off4_inb i)).toLoadRect
      = slotOf i (VecWindow.put xm (k0_off3 i) S1x128x2048.size w) := by
  have e : slotOf i (VecWindow.put xm (k0_off3 i) S1x128x2048.size w) = w :=
    VecWindow.window_put_same xm (k0_off3 i) S1x128x2048.size (k0_off4_inb i) w
  rw [e, View.readCov_eq_canon']
  funext j
  exact View.canon_cons_emb _ _ _ j

end Cert.Kernel.Hand
-- ==== Proof.Kernel.Dense.lean ====
/- The segment of the body that expands a tenant's packed block to a dense one: what its stores leave in the dense
   scratch, as pieces, on any staging buffers. -/

module

public import proofs.«01_k».proof.Proof.Kernel.Kit

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the expansion of a packed block writes into the dense scratch (last first) and the row block it hands on,
    with the proof that it runs, on whole buffers, from the packed block's contents to those pieces written. -/
noncomputable def denseRun (c : Dev nD) (i : grid0.Coords) (arg2 : Memref sig .tc .smem S8 .i32) (harg2 : arg2.IsWhole) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x6 : Vec F S1x512x512 .i8) (x7 : Vec F S1x256x512 .i8) (x8 : Vec F S1x16x512 .bf16) :
    Σ' (R : FVec F S32x512 .bf16), { L : List (View.Piece (Elt F) S2048x512 .bf16) //
      ∀ (E : Set ℕ) (f17 : Buf (Elt F) (arg17.view.loc (c : Thread nD τ))),
        (iprop((arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} f17)) : sProp 𝕄)
          ⊢ wp frame (wpE (defs₀ (F := F)) Variants.none c none) E (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun r => iprop(⌜r = R⌝ ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} arg17.view.writes (Elt F) f17 L))) } := by
  refine ⟨?_, ?_, fun E f17 => ?run⟩
  case run =>
    iintro ⟨H6, H7, H8, H17⟩
    simp only [k0_part37_eq_skeleton]; unfold k0_part37_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    sl_exec
    sl_step
    isplitr
    · ipureintro; rfl
    isplitl [H6]; · iexact H6
    isplitl [H7]; · iexact H7
    isplitl [H8]; · iexact H8
    iexact H17

end Cert.Kernel.Hand
-- ==== Proof.Kernel.Body.lean ====
/- The body of the kernel at any point of the grid, on any staging buffers: it runs, gives its inputs back, and leaves in
   every other buffer what `Values` says. -/

module

public import proofs.«01_k».proof.Proof.Kernel.Values
public import proofs.«01_k».proof.Proof.Kernel.Dense

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of the whole array after the eight stores of the permuted codes reads what they leave. -/
theorem perm_load (v : View sig .tc .vmem S128x2048 .bf16) (x3 : Vec F S128x2048 .bf16) :
    v.readCov (permL x3) (Rect.unit (s := S128x2048) ![0, 0] S128x2048.size inb_S128x2048_S128x2048_0_0).toLoadRect = permOf x3 := by
  rw [View.readCov_eq_canon']
  funext j
  exact congrArg (View.canon (permL x3)) (funext fun a => Fin.ext (by
    show (![0, 0] : Fin 2 → ℕ) a + 1 * (j a).val = (j a).val
    fin_cases a <;> simp))

/-- Equal codes, equal masked codes. -/
theorem pay2_congr (o0 o1 : Elt F .i32) {a a' : Vec F S128x2048 .bf16} (h : a = a') : k0_pay2 o0 o1 a = k0_pay2 o0 o1 a' := by rw [h]
/-- Equal codes, equal base products. -/
theorem pay3_congr {a a' : Vec F S128x2048 .fp8e4m3} (w : Vec F S2048x512 .fp8e4m3) (h : a = a') : k0_pay3 a w = k0_pay3 a' w := by rw [h]
/-- Equal operands, equal accumulated products. -/
theorem pay5_congr {a a' : Vec F S128x512 .f32} {b b' : Vec F S1x128x2048 .bf16} {d d' : Vec F S2048x512 .bf16} (ha : a = a') (hb : b = b') (hd : d = d') :
    k0_pay5 a b d = k0_pay5 a' b' d' := by rw [ha, hb, hd]
/-- Equal operands, equal output blocks. -/
theorem pay6_congr (sc : Vec F S128x1 .f32) (b : Vec F S128x512 .f32) (x : Vec F S1x512 .f32) {a a' : Vec F S128x512 .f32} (h : a = a') :
    k0_pay6 sc b x a = k0_pay6 sc b x a' := by rw [h]

/-- The six ways the four conditions on the grid point can go. -/
theorem sixCases {a b c d : Prop} (h01 : a → b ∧ c) (h24 : c → ¬ d) (h012 : b → c → a) :
    (a ∧ b ∧ c ∧ ¬ d) ∨ (¬ a ∧ b ∧ ¬ c ∧ d) ∨ (¬ a ∧ b ∧ ¬ c ∧ ¬ d) ∨ (¬ a ∧ ¬ b ∧ c ∧ ¬ d)
      ∨ (¬ a ∧ ¬ b ∧ ¬ c ∧ d) ∨ (¬ a ∧ ¬ b ∧ ¬ c ∧ ¬ d) := by tauto

set_option maxHeartbeats 8000000 in
/-- The body, in every case of its conditions. The tenant's block is expanded by the segment `hcut` specifies, whose stores,
    with the row block it hands on, leave `D` in the dense scratch. -/
theorem bodyRun (c : Dev nD) (i : grid0.Coords) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (xt0 : TbBuf0 (F := F) c tbM0_0)
    (E : Set ℕ) (K : PUnit → sProp 𝕄) (RR : FVec F S32x512 .bf16) (LL : List (View.Piece (Elt F) S2048x512 .bf16))
    (hcut : ∀ f17, (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} f17)) : sProp 𝕄)
      ⊢ wp frame (wpE (defs₀ (F := F)) Variants.none c none) E (k0_part37 i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = RR⌝ ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} arg17.view.writes (Elt F) f17 LL))))
    (v9 : Vec F S128x512 .bf16) (v10 : Vec F S128x2048 .fp8e4m3) (v11 : Vec F S1x128 .f32) (v12 : Vec F S128x2048 .bf16) (v13 : Vec F S7x128x2048 .bf16) (v14 : Vec F S128x128 .f32) (v15 : Vec F S128x512 .f32) (v16 : Vec F S128x512 .f32) (s15 : Vec F S128x512 .f32) (D : Vec F S2048x512 .bf16)
    (hD : ∀ f, arg17.view.read (Elt F) (arg17.view.writes (Elt F) f ((⟨Rect.unit (s := S2048x512) ![2016, 0] S32x512.size inb_S2048x512_S32x512_2016_0, RR⟩ : View.Piece (Elt F) S2048x512 .bf16) :: LL)) = D)
    (h01 : cond0_0 i → cond0_1 i ∧ cond0_2 i) (h24 : cond0_2 i → ¬ cond0_4 i) (h012 : cond0_1 i → cond0_2 i → cond0_0 i)
    (e10 : codesAt i (arg3.view.readAt (Elt F) (Rect.unit (s := S128x2048) ![0, 0] S128x2048.size inb_S128x2048_S128x2048_0_0).toLoadRect f3) (arg10.view.readAt (Elt F) (Rect.unit (s := S128x2048) ![0, 0] S128x2048.size inb_S128x2048_S128x2048_0_0).toLoadRect f10) = v10) (e11 : scalesAt i (arg3.view.readAt (Elt F) (Rect.unit (s := S128x2048) ![0, 0] S128x2048.size inb_S128x2048_S128x2048_0_0).toLoadRect f3) (arg11.view.read (Elt F) f11) = v11)
    (e12 : permAt i (arg3.view.readAt (Elt F) (Rect.unit (s := S128x2048) ![0, 0] S128x2048.size inb_S128x2048_S128x2048_0_0).toLoadRect f3) (arg12.view.readAt (Elt F) (Rect.unit (s := S128x2048) ![0, 0] S128x2048.size inb_S128x2048_S128x2048_0_0).toLoadRect f12) = v12) (e14 : scAt i (arg3.view.readAt (Elt F) (Rect.unit (s := S128x2048) ![0, 0] S128x2048.size inb_S128x2048_S128x2048_0_0).toLoadRect f3) (arg14.view.read (Elt F) f14) = v14)
    (e13 : slotsAt i (word0 c i xt0) (word1 c i xt0) v12 (arg13.view.read (Elt F) f13) = v13) (e16 : baseAt i v10 (arg4.view.readAt (Elt F) (Rect.unit (s := S2048x512) ![0, 0] S2048x512.size inb_S2048x512_S2048x512_0_0).toLoadRect f4) (arg16.view.readAt (Elt F) (Rect.unit (s := S128x512) ![0, 0] S128x512.size inb_S128x512_S128x512_0_0).toLoadRect f16) = v16)
    (es : startAt i (arg15.view.readAt (Elt F) (Rect.unit (s := S128x512) ![0, 0] S128x512.size inb_S128x512_S128x512_0_0).toLoadRect f15) = s15) (e15 : accAt i (word0 c i xt0) (word1 c i xt0) s15 v13 D = v15)
    (e9 : yAt i v14 v16 (arg5.view.readAt (Elt F) (Rect.unit (s := S1x512) ![0, 0] S1x512.size inb_S1x512_S1x512_0_0).toLoadRect f5) v15 (arg9.view.read (Elt F) f9) = v9) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ tbPt0 c tbM0_0 xt0
      ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ owns (c : Thread nD τ) arg9 fullShare v9 ∗ owns (c : Thread nD τ) arg10 fullShare v10 ∗ owns (c : Thread nD τ) arg11 fullShare v11 ∗ owns (c : Thread nD τ) arg12 fullShare v12 ∗ owns (c : Thread nD τ) arg13 fullShare v13 ∗ owns (c : Thread nD τ) arg14 fullShare v14 ∗ owns (c : Thread nD τ) arg15 fullShare v15 ∗ owns (c : Thread nD τ) arg16 fullShare v16 ∗ (∃ d, owns (c : Thread nD τ) arg17 fullShare d) ∗ tbPt0 c tbM0_0 xt0) -∗ K ⟨⟩)) : sProp 𝕄)
      ⊢ wp frame (wpE (defs₀ (F := F)) Variants.none c none) E (cc0_delta_projection i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_delta_projection_eq_skeleton]; unfold cc0_delta_projection_skel
  simp only [k0_part1_eq_skeleton, k0_part2_eq_skeleton, k0_part3_eq_skeleton]
  unfold owns
  iintro ⟨H3, H4, H5, H6, H7, H8, H9, H10, H11, H12, H13, H14, H15, H16, H17, HT0, Hk⟩
  have r3 : cond0_3 i (word0 c i xt0) (word1 c i xt0) ∨ ¬ cond0_3 i (word0 c i xt0) (word1 c i xt0) := em _
  have r0 := sixCases h01 h24 h012
  rcases r3 with hc3 | hc3 <;>
  rcases r0 with ⟨hc0, hc1, hc2, hc4⟩ | ⟨hc0, hc1, hc2, hc4⟩ | ⟨hc0, hc1, hc2, hc4⟩ | ⟨hc0, hc1, hc2, hc4⟩ | ⟨hc0, hc1, hc2, hc4⟩ | ⟨hc0, hc1, hc2, hc4⟩
  all_goals
  first | rw [codesAt, if_pos hc0] at e10 | rw [codesAt, if_neg hc0] at e10
  first | rw [scalesAt, if_pos hc0] at e11 | rw [scalesAt, if_neg hc0] at e11
  first | rw [permAt, if_pos hc0] at e12 | rw [permAt, if_neg hc0] at e12
  first | rw [scAt, if_pos hc0] at e14 | rw [scAt, if_neg hc0] at e14
  first | rw [slotsAt, if_pos hc1] at e13 | rw [slotsAt, if_neg hc1] at e13
  first | rw [baseAt, if_pos hc2] at e16 | rw [baseAt, if_neg hc2] at e16
  first | rw [startAt, if_pos hc2] at es | rw [startAt, if_neg hc2] at es
  first | rw [accAt, if_pos hc3] at e15 | rw [accAt, if_neg hc3] at e15
  first | rw [yAt, if_pos hc4] at e9 | rw [yAt, if_neg hc4] at e9
  subst e9 e15 es e16 e13 e14 e12 e11 e10
  sl_exec (disch := first | sl_exact hc0 | sl_exact hc1 | sl_exact hc2 | sl_exact hc4 | sl_exact hc3)
  try subst hk0_part37_0
  sl_step
  iapply Hk
  isplitl [H3]; · iexact H3
  isplitl [H4]; · iexact H4
  isplitl [H5]; · iexact H5
  first
  | isplitl [H6]; · iexact H6
    isplitl [H7]; · iexact H7
    isplitl [H8]; · iexact H8
  | isplitl [Hk0_part37_1]; · iexact Hk0_part37_1
    isplitl [Hk0_part37_2]; · iexact Hk0_part37_2
    isplitl [Hk0_part37_3]; · iexact Hk0_part37_3
  isplitl [H9]
  · iexists _; isplitr; swap; · iexact H9
    ipureintro
    first
    | (have _h : cond0_4 i := hc4
       refine (View.read_writes_full _ _ _ _ _).trans (pay6_congr _ _ _ ?_)
       first
       | (have _h : cond0_3 i (word0 c i xt0) (word1 c i xt0) := hc3
          refine (View.readCov_full _ _ _ _ _).trans ?_
          refine pay5_congr ?_ ?_ ?_
          · first | (have _h : cond0_2 i := hc2; exact View.readCov_full _ _ _ _ _) | rfl
          · first
            | (have _h : cond0_0 i := hc0; exact (slot_put i _ _ _ _).trans (congrArg (fun z => slotOf i (VecWindow.put _ (k0_off3 i) S1x128x2048.size z)) (pay2_congr _ _ (perm_load _ _))))
            | (have _h : cond0_1 i := hc1; exact slot_put i _ _ _ _)
            | rfl
          · exact (View.readAt_full _ _ _).trans (hD _))
       | rfl)
    | rfl
  isplitl [H10]
  · iexists _; isplitr; swap; · iexact H10
    ipureintro
    first | (have _h : cond0_0 i := hc0; exact View.read_writes_full _ _ _ _ _) | exact (View.readAt_full _ _ _).symm
  isplitl [H11]
  · iexists _; isplitr; swap; · iexact H11
    ipureintro
    first | (have _h : cond0_0 i := hc0; exact View.read_writes_full _ _ _ _ _) | rfl
  isplitl [H12]
  · iexists _; isplitr; swap; · iexact H12
    ipureintro
    first | (have _h : cond0_0 i := hc0; exact View.read_writes_eq_canon _ _ _ (perm_cover _)) | exact (View.readAt_full _ _ _).symm
  isplitl [H13]
  · iexists _; isplitr; swap; · iexact H13
    ipureintro
    first
    | (have _h : cond0_0 i := hc0; exact (View.read_writes_cons_put _ _ _ _ _ rfl).trans (congrArg (VecWindow.put _ _ _) (pay2_congr _ _ (perm_load _ _))))
    | (have _h : cond0_1 i := hc1; exact View.read_writes_cons_put _ _ _ _ _ rfl)
    | rfl
  isplitl [H14]
  · iexists _; isplitr; swap; · iexact H14
    ipureintro
    first | (have _h : cond0_0 i := hc0; exact View.read_writes_full _ _ _ _ _) | rfl
  isplitl [H15]
  · iexists _; isplitr; swap; · iexact H15
    ipureintro
    first
    | (have _h : cond0_3 i (word0 c i xt0) (word1 c i xt0) := hc3
       refine (View.read_writes_full _ _ _ _ _).trans ?_
       refine pay5_congr ?_ ?_ ?_
       · first | (have _h : cond0_2 i := hc2; exact View.readCov_full _ _ _ _ _) | rfl
       · first
         | (have _h : cond0_0 i := hc0; exact (slot_put i _ _ _ _).trans (congrArg (fun z => slotOf i (VecWindow.put _ (k0_off3 i) S1x128x2048.size z)) (pay2_congr _ _ (perm_load _ _))))
         | (have _h : cond0_1 i := hc1; exact slot_put i _ _ _ _)
         | rfl
       · exact (View.readAt_full _ _ _).trans (hD _))
    | (have _h : cond0_2 i := hc2; exact View.read_writes_full _ _ _ _ _)
    | exact (View.readAt_full _ _ _).symm
  isplitl [H16]
  · iexists _; isplitr; swap; · iexact H16
    ipureintro
    first
    | (have _h : cond0_0 i := hc0; exact (View.read_writes_full _ _ _ _ _).trans (pay3_congr _ (View.readCov_full _ _ _ _ _)))
    | (have _h : cond0_2 i := hc2; exact View.read_writes_full _ _ _ _ _)
    | exact (View.readAt_full _ _ _).symm
  first
  | isplitl [H17]
    · iexists _, _; isplitr; swap; · iexact H17
      ipureintro; rfl
  | isplitl [Hk0_part37_4]
    · iexists _, _; isplitr; swap; · iexact Hk0_part37_4
      ipureintro; rfl
  iexact HT0

end Cert.Kernel.Hand
-- ==== Proof.Kernel.Expand.lean ====
/- The dense bf16 block that the expansion of a packed block leaves in the scratch, as one function of the packed block,
   and the proof that the stores of the body leave it. -/

module

public import proofs.«01_k».proof.Proof.Kernel.Dense
public import Idealize.ShloMosaic.Lib.Pipeline.ReadBack

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of packed values, of packed indices and of scales that the expansion of row block `b` reads. -/
def valsOf (b : ℕ) (hb : b < 8) (x6 : Vec F S1x512x512 .i8) : Vec F S1x64x512 .i8 :=
  View.ld (Val := Elt F) (e' := .i8) x6 (Rect.unit (s := S1x512x512) ![0, 64 * b, 0] S1x64x512.size (by intro a; fin_cases a <;> simp [S1x512x512, S1x64x512, Shape.size] <;> omega))
/-- The packed places of a pair of groups. -/
def idxOf (b : ℕ) (hb : b < 8) (x7 : Vec F S1x256x512 .i8) : Vec F S1x32x512 .i8 :=
  View.ld (Val := Elt F) (e' := .i8) x7 (Rect.unit (s := S1x256x512) ![0, 32 * b, 0] S1x32x512.size (by intro a; fin_cases a <;> simp [S1x256x512, S1x32x512, Shape.size] <;> omega))
/-- A row of scales of a pair of groups. -/
def scaleOf (b : ℕ) (hb : b < 8) (h : ℕ) (hh : h < 2) (x8 : Vec F S1x16x512 .bf16) : Vec F S1x1x512 .bf16 :=
  View.ld (Val := Elt F) (e' := .bf16) x8 (Rect.unit (s := S1x16x512) ![0, 2 * b + h, 0] S1x1x512.size (by intro a; fin_cases a <;> simp [S1x16x512, S1x1x512, Shape.size] <;> omega))

/-- The nibbles at position `p` of the quads that a row block's packed values and indices expand to. -/
def quadOf (p : ℕ) (v : Vec F S1x64x512 .i8) (w : Vec F S1x32x512 .i8) : IVec S64x512 4 :=
  match p with
  | 0 => k0_pay41 (k0_pay28 v) (k0_pay29 v) (k0_pay30 w) (k0_pay31 w) (k0_pay32 v w)
  | 1 => k0_pay42 (k0_pay28 v) (k0_pay29 v) (k0_pay30 w) (k0_pay31 w) (k0_pay32 v w)
  | 2 => k0_pay45 (k0_pay43 (k0_pay29 v) (k0_pay30 w) (k0_pay31 w) (k0_pay32 v w)) (iota .tc S8x8x512 32 [1] iota_S8x8x512_d1_w32) k0_pay44
  | _ => k0_pay46 (k0_pay34 (k0_pay31 w) (k0_pay32 v w)) (k0_pay39 (k0_pay29 v) (k0_pay30 w))

/-- Half `h` of the quads at one position, as bf16 numbers, times their scales. -/
def halfOf (h : ℕ) (q : IVec S64x512 4) (s : Vec F S1x1x512 .bf16) : FVec F S32x512 .bf16 :=
  match h with
  | 0 => k0_pay48 q s
  | _ => k0_pay49 q s

/-- The 32 dense rows of row block `b`, quad position `p` and half `h`. -/
def rowsOf (b : ℕ) (hb : b < 8) (p h : ℕ) (hh : h < 2) (x6 : Vec F S1x512x512 .i8) (x7 : Vec F S1x256x512 .i8) (x8 : Vec F S1x16x512 .bf16) :
    FVec F S32x512 .bf16 :=
  halfOf h (quadOf p (valsOf b hb x6) (idxOf b hb x7)) (scaleOf b hb h hh x8)

/-- The dense block: row `256 b + 64 p + 32 h + r` is row `r` of those of `b`, `p`, `h`. -/
def denseOf (x6 : Vec F S1x512x512 .i8) (x7 : Vec F S1x256x512 .i8) (x8 : Vec F S1x16x512 .bf16) : Vec F S2048x512 .bf16 := fun y =>
  have hy : (y 0).val < 2048 := (y 0).isLt
  rowsOf ((y 0).val / 256) (by omega) ((y 0).val % 256 / 64) ((y 0).val % 64 / 32) (by omega) x6 x7 x8
    (fun | 0 => ⟨(y 0).val % 32, Nat.mod_lt _ (by decide)⟩ | 1 => ⟨(y 1).val, (y 1).isLt⟩)

/-- The rows of `b`, `p`, `h` are where the dense block has them. -/
theorem rows_piece (b p h : ℕ) (hb : b < 8) (hp : p < 4) (hh : h < 2) (x6 : Vec F S1x512x512 .i8) (x7 : Vec F S1x256x512 .i8) (x8 : Vec F S1x16x512 .bf16)
    (inb : ∀ a, (![256 * b + 64 * p + 32 * h, 0] : Fin 2 → ℕ) a + S32x512.size a ≤ S2048x512.size a) (j : S32x512.Idx) :
    rowsOf b hb p h hh x6 x7 x8 j = denseOf x6 x7 x8 ((Rect.unit (s := S2048x512) ![256 * b + 64 * p + 32 * h, 0] S32x512.size inb).emb j) := by
  have e0 : (((Rect.unit (s := S2048x512) ![256 * b + 64 * p + 32 * h, 0] S32x512.size inb).emb j) 0).val = 256 * b + 64 * p + 32 * h + 1 * (j 0).val := rfl
  have e1 : (((Rect.unit (s := S2048x512) ![256 * b + 64 * p + 32 * h, 0] S32x512.size inb).emb j) 1).val = 0 + 1 * (j 1).val := rfl
  have hj : (j 0).val < 32 := (j 0).isLt
  unfold denseOf
  generalize (Rect.unit (s := S2048x512) ![256 * b + 64 * p + 32 * h, 0] S32x512.size inb).emb j = y at e0 e1
  obtain rfl : b = (y 0).val / 256 := by omega
  obtain rfl : p = (y 0).val % 256 / 64 := by omega
  obtain rfl : h = (y 0).val % 64 / 32 := by omega
  refine congrArg (rowsOf _ _ _ _ _ x6 x7 x8) (funext fun a => ?_)
  match a with
  | 0 => exact Fin.ext (by show (j 0).val = (y 0).val % 32; omega)
  | 1 => exact Fin.ext (by show (j 1).val = (y 1).val; omega)

/-- The offsets of a row group stay inside the block. -/
theorem rows_inb (b p h : ℕ) (hb : b < 8) (hp : p < 4) (hh : h < 2) :
    ∀ a, (![256 * b + 64 * p + 32 * h, 0] : Fin 2 → ℕ) a + S32x512.size a ≤ S2048x512.size a := by
  intro a; fin_cases a
  · show 256 * b + 64 * p + 32 * h + 32 ≤ 2048; omega
  · show 0 + 512 ≤ 512; omega

/-- The eight stores of one row block, last first, and those of all the row blocks. -/
def blockL (b : ℕ) (hb : b < 8) (x6 : Vec F S1x512x512 .i8) (x7 : Vec F S1x256x512 .i8) (x8 : Vec F S1x16x512 .bf16) : List (View.Piece (Elt F) S2048x512 .bf16) :=
  [⟨Rect.unit (s := S2048x512) ![256 * b + 64 * 3 + 32 * 1, 0] S32x512.size (rows_inb b 3 1 hb (by decide) (by decide)), rowsOf b hb 3 1 (by decide) x6 x7 x8⟩, ⟨Rect.unit (s := S2048x512) ![256 * b + 64 * 3 + 32 * 0, 0] S32x512.size (rows_inb b 3 0 hb (by decide) (by decide)), rowsOf b hb 3 0 (by decide) x6 x7 x8⟩, ⟨Rect.unit (s := S2048x512) ![256 * b + 64 * 2 + 32 * 1, 0] S32x512.size (rows_inb b 2 1 hb (by decide) (by decide)), rowsOf b hb 2 1 (by decide) x6 x7 x8⟩, ⟨Rect.unit (s := S2048x512) ![256 * b + 64 * 2 + 32 * 0, 0] S32x512.size (rows_inb b 2 0 hb (by decide) (by decide)), rowsOf b hb 2 0 (by decide) x6 x7 x8⟩, ⟨Rect.unit (s := S2048x512) ![256 * b + 64 * 1 + 32 * 1, 0] S32x512.size (rows_inb b 1 1 hb (by decide) (by decide)), rowsOf b hb 1 1 (by decide) x6 x7 x8⟩, ⟨Rect.unit (s := S2048x512) ![256 * b + 64 * 1 + 32 * 0, 0] S32x512.size (rows_inb b 1 0 hb (by decide) (by decide)), rowsOf b hb 1 0 (by decide) x6 x7 x8⟩, ⟨Rect.unit (s := S2048x512) ![256 * b + 64 * 0 + 32 * 1, 0] S32x512.size (rows_inb b 0 1 hb (by decide) (by decide)), rowsOf b hb 0 1 (by decide) x6 x7 x8⟩, ⟨Rect.unit (s := S2048x512) ![256 * b + 64 * 0 + 32 * 0, 0] S32x512.size (rows_inb b 0 0 hb (by decide) (by decide)), rowsOf b hb 0 0 (by decide) x6 x7 x8⟩]
/-- The expanded delta as the list of its stored pieces. -/
def denseL (x6 : Vec F S1x512x512 .i8) (x7 : Vec F S1x256x512 .i8) (x8 : Vec F S1x16x512 .bf16) : List (View.Piece (Elt F) S2048x512 .bf16) :=
  blockL 7 (by decide) x6 x7 x8 ++ (blockL 6 (by decide) x6 x7 x8 ++ (blockL 5 (by decide) x6 x7 x8 ++ (blockL 4 (by decide) x6 x7 x8 ++ (blockL 3 (by decide) x6 x7 x8 ++ (blockL 2 (by decide) x6 x7 x8 ++ (blockL 1 (by decide) x6 x7 x8 ++ (blockL 0 (by decide) x6 x7 x8)))))))

/-- Pieces of two lists make pieces of the joined list. -/
theorem piecesOf_append {G : S2048x512.Idx → Elt F .bf16} : ∀ {L L' : List (View.Piece (Elt F) S2048x512 .bf16)},
    View.PiecesOf G L → View.PiecesOf G L' → View.PiecesOf G (L ++ L')
  | [], _, _, h => h
  | _ :: _, _, h, h' => ⟨h.1, piecesOf_append h.2 h'⟩

/-- Each store is the dense block's. -/
theorem block_pieces (b : ℕ) (hb : b < 8) (x6 : Vec F S1x512x512 .i8) (x7 : Vec F S1x256x512 .i8) (x8 : Vec F S1x16x512 .bf16) : View.PiecesOf (denseOf x6 x7 x8) (blockL b hb x6 x7 x8) :=
  ⟨rows_piece b 3 1 hb (by decide) (by decide) x6 x7 x8 (rows_inb b 3 1 hb (by decide) (by decide)), rows_piece b 3 0 hb (by decide) (by decide) x6 x7 x8 (rows_inb b 3 0 hb (by decide) (by decide)), rows_piece b 2 1 hb (by decide) (by decide) x6 x7 x8 (rows_inb b 2 1 hb (by decide) (by decide)), rows_piece b 2 0 hb (by decide) (by decide) x6 x7 x8 (rows_inb b 2 0 hb (by decide) (by decide)), rows_piece b 1 1 hb (by decide) (by decide) x6 x7 x8 (rows_inb b 1 1 hb (by decide) (by decide)), rows_piece b 1 0 hb (by decide) (by decide) x6 x7 x8 (rows_inb b 1 0 hb (by decide) (by decide)), rows_piece b 0 1 hb (by decide) (by decide) x6 x7 x8 (rows_inb b 0 1 hb (by decide) (by decide)), rows_piece b 0 0 hb (by decide) (by decide) x6 x7 x8 (rows_inb b 0 0 hb (by decide) (by decide)), trivial⟩
/-- Every stored piece of the expanded delta is the list's. -/
theorem dense_pieces (x6 : Vec F S1x512x512 .i8) (x7 : Vec F S1x256x512 .i8) (x8 : Vec F S1x16x512 .bf16) : View.PiecesOf (denseOf x6 x7 x8) (denseL x6 x7 x8) :=
  piecesOf_append (block_pieces _ _ _ _ _) (piecesOf_append (block_pieces _ _ _ _ _) (piecesOf_append (block_pieces _ _ _ _ _) (piecesOf_append (block_pieces _ _ _ _ _) (piecesOf_append (block_pieces _ _ _ _ _) (piecesOf_append (block_pieces _ _ _ _ _) (piecesOf_append (block_pieces _ _ _ _ _) (block_pieces _ _ _ _ _)))))))

/-- The stores cover the dense block. -/
theorem dense_cover (x6 : Vec F S1x512x512 .i8) (x7 : Vec F S1x256x512 .i8) (x8 : Vec F S1x16x512 .bf16) (y : S2048x512.Idx) : ∃ p ∈ denseL x6 x7 x8, y ∈ p.1.set :=
  View.cover_of_tiledL (denseL x6 x7 x8) S32x512.size (by sl_kernel_rfl) y

set_option maxRecDepth 200000 in
set_option maxHeartbeats 1000000 in
/-- What the expansion stores is that list. -/
theorem dense_list (c : Dev nD) (i : grid0.Coords) (arg2 : Memref sig .tc .smem S8 .i32) (harg2 : arg2.IsWhole) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x6 : Vec F S1x512x512 .i8) (x7 : Vec F S1x256x512 .i8) (x8 : Vec F S1x16x512 .bf16) :
    ((⟨Rect.unit (s := S2048x512) ![2016, 0] S32x512.size inb_S2048x512_S32x512_2016_0, (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).1⟩ : View.Piece (Elt F) S2048x512 .bf16) :: (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).2.1)
      = denseL (arg6.view.read (Elt F) (harg6.unread x6)) (arg7.view.read (Elt F) (harg7.unread x7)) (arg8.view.read (Elt F) (harg8.unread x8)) := rfl

/-- The list of stores leaves the dense block, whatever the buffer held. -/
theorem read_denseL {κ : Kind} {sp : Space} (v : View sig κ sp S2048x512 .bf16) (x6 : Vec F S1x512x512 .i8) (x7 : Vec F S1x256x512 .i8) (x8 : Vec F S1x16x512 .bf16) (f : v.ty.Contents (Elt F)) (L : List (View.Piece (Elt F) S2048x512 .bf16))
    (h : L = denseL x6 x7 x8) : v.read (Elt F) (v.writes (Elt F) f L) = denseOf x6 x7 x8 := by
  subst h
  funext y
  exact View.read_writes_apply_of_pieces _ f _ _ (dense_pieces x6 x7 x8).mem y (dense_cover x6 x7 x8 y)

/-- The packed block read back from whole staging buffers is the packed block. -/
theorem denseL_unread (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (x6 : Vec F S1x512x512 .i8) (x7 : Vec F S1x256x512 .i8) (x8 : Vec F S1x16x512 .bf16) :
    denseL (arg6.view.read (Elt F) (harg6.unread x6)) (arg7.view.read (Elt F) (harg7.unread x7)) (arg8.view.read (Elt F) (harg8.unread x8)) = denseL x6 x7 x8 := by
  rw [harg6.read_unread, harg7.read_unread, harg8.read_unread]

/-- The expansion runs, and with the rows handed on stored last its stores are the list above. -/
theorem dense_run (c : Dev nD) (i : grid0.Coords) (arg2 : Memref sig .tc .smem S8 .i32) (harg2 : arg2.IsWhole) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x6 : Vec F S1x512x512 .i8) (x7 : Vec F S1x256x512 .i8) (x8 : Vec F S1x16x512 .bf16) :
    ∃ (R : FVec F S32x512 .bf16) (L : List (View.Piece (Elt F) S2048x512 .bf16)),
      (∀ (E : Set ℕ) (f17 : Buf (Elt F) (arg17.view.loc (c : Thread nD τ))),
        (iprop((arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} f17)) : sProp 𝕄)
          ⊢ wp frame (wpE (defs₀ (F := F)) Variants.none c none) E (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun r => iprop(⌜r = R⌝ ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} arg17.view.writes (Elt F) f17 L))))
      ∧ ((⟨Rect.unit (s := S2048x512) ![2016, 0] S32x512.size inb_S2048x512_S32x512_2016_0, R⟩ : View.Piece (Elt F) S2048x512 .bf16) :: L) = denseL x6 x7 x8 :=
  ⟨(denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).1, (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).2.1, (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).2.2,
    (dense_list c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).trans (denseL_unread arg6 harg6 arg7 harg7 arg8 harg8 x6 x7 x8)⟩

end Cert.Kernel.Hand
-- ==== Proof.Kernel.Step.lean ====
/- One run of the body on whole buffers, by what each buffer holds before and after. -/

module

public import proofs.«01_k».proof.Proof.Kernel.Body
public import proofs.«01_k».proof.Proof.Kernel.Expand

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer owned at contents is its raw points-to at those contents. -/
theorem owns_raw (c : Dev nD) {sp : Space} {s : Shape} {e : EltTy} (m : Memref sig .tc sp s e) (h : m.IsWhole) (X : s.Idx → Elt F e) :
    (owns (c : Thread nD τ) m fullShare X : sProp 𝕄) ⊢ iprop(m.view.loc (c : Thread nD τ) ↦[m.view.set]{fullShare} h.unread X) := by
  unfold owns
  iintro ⟨%f, %hf, H⟩
  obtain rfl := h.eq_unread hf
  iexact H

/-- And back. -/
theorem raw_owns (c : Dev nD) {sp : Space} {s : Shape} {e : EltTy} (m : Memref sig .tc sp s e) (h : m.IsWhole) (X : s.Idx → Elt F e) :
    (iprop(m.view.loc (c : Thread nD τ) ↦[m.view.set]{fullShare} h.unread X) : sProp 𝕄) ⊢ owns (c : Thread nD τ) m fullShare X := by
  unfold owns
  iintro H
  iexists _
  isplitr
  swap; · iexact H
  ipureintro; exact h.read_unread X

/-- A load of a whole buffer at contents reads the contents. -/
theorem load_full {sp : Space} {s : Shape} {e : EltTy} (m : Memref sig .tc sp s e) (h : m.IsWhole) (X : s.Idx → Elt F e)
    {off : Fin s.rank → ℕ} (inb : ∀ a, off a + s.size a ≤ s.size a) :
    m.view.readAt (Elt F) (Rect.unit off s.size inb).toLoadRect (h.unread X) = X :=
  (View.readAt_full _ _ _).trans (h.read_unread X)

set_option maxHeartbeats 4000000 in
/-- The body at grid point `i`: from whole buffers at any contents to the same buffers at the contents it leaves. -/
theorem bodyStep (c : Dev nD) (i : grid0.Coords) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x3 : Vec F S128x2048 .bf16) (x4 : Vec F S2048x512 .fp8e4m3) (x5 : Vec F S1x512 .f32) (x6 : Vec F S1x512x512 .i8) (x7 : Vec F S1x256x512 .i8) (x8 : Vec F S1x16x512 .bf16) (x9 : Vec F S128x512 .bf16) (x10 : Vec F S128x2048 .fp8e4m3) (x11 : Vec F S1x128 .f32) (x12 : Vec F S128x2048 .bf16) (x13 : Vec F S7x128x2048 .bf16) (x14 : Vec F S128x128 .f32) (x15 : Vec F S128x512 .f32) (x16 : Vec F S128x512 .f32) (xt0 : TbBuf0 (F := F) c tbM0_0) (E : Set ℕ) (K : PUnit → sProp 𝕄)
    (h01 : cond0_0 i → cond0_1 i ∧ cond0_2 i) (h24 : cond0_2 i → ¬ cond0_4 i) (h012 : cond0_1 i → cond0_2 i → cond0_0 i) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ tbPt0 c tbM0_0 xt0
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (yAt i (scAt i x3 x14) (baseAt i (codesAt i x3 x10) x4 x16) x5 (accAt i (word0 c i xt0) (word1 c i xt0) (startAt i x15) (slotsAt i (word0 c i xt0) (word1 c i xt0) (permAt i x3 x12) x13) (denseOf x6 x7 x8)) x9) ∗ owns (c : Thread nD τ) arg10 fullShare (codesAt i x3 x10) ∗ owns (c : Thread nD τ) arg11 fullShare (scalesAt i x3 x11) ∗ owns (c : Thread nD τ) arg12 fullShare (permAt i x3 x12) ∗ owns (c : Thread nD τ) arg13 fullShare (slotsAt i (word0 c i xt0) (word1 c i xt0) (permAt i x3 x12) x13) ∗ owns (c : Thread nD τ) arg14 fullShare (scAt i x3 x14) ∗ owns (c : Thread nD τ) arg15 fullShare (accAt i (word0 c i xt0) (word1 c i xt0) (startAt i x15) (slotsAt i (word0 c i xt0) (word1 c i xt0) (permAt i x3 x12) x13) (denseOf x6 x7 x8)) ∗ owns (c : Thread nD τ) arg16 fullShare (baseAt i (codesAt i x3 x10) x4 x16) ∗ (∃ d, owns (c : Thread nD τ) arg17 fullShare d) ∗ tbPt0 c tbM0_0 xt0) -∗ K ⟨⟩)) : sProp 𝕄)
      ⊢ wp frame (wpE (defs₀ (F := F)) Variants.none c none) E (cc0_delta_projection i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨RR, LL, hcut, hL⟩ := dense_run c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8
  iintro ⟨H3, H4, H5, H6, H7, H8, H9, H10, H11, H12, H13, H14, H15, H16, ⟨%d17, H17⟩, HT0, HK⟩
  ihave H3 := (owns_raw c arg3 harg3 _) $$ H3
  ihave H4 := (owns_raw c arg4 harg4 _) $$ H4
  ihave H5 := (owns_raw c arg5 harg5 _) $$ H5
  ihave H6 := (owns_raw c arg6 harg6 _) $$ H6
  ihave H7 := (owns_raw c arg7 harg7 _) $$ H7
  ihave H8 := (owns_raw c arg8 harg8 _) $$ H8
  ihave H9 := (owns_raw c arg9 harg9 _) $$ H9
  ihave H10 := (owns_raw c arg10 harg10 _) $$ H10
  ihave H11 := (owns_raw c arg11 harg11 _) $$ H11
  ihave H12 := (owns_raw c arg12 harg12 _) $$ H12
  ihave H13 := (owns_raw c arg13 harg13 _) $$ H13
  ihave H14 := (owns_raw c arg14 harg14 _) $$ H14
  ihave H15 := (owns_raw c arg15 harg15 _) $$ H15
  ihave H16 := (owns_raw c arg16 harg16 _) $$ H16
  ihave H17 := (owns_raw c arg17 harg17 _) $$ H17
  iapply (bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread d17) xt0 E K RR LL (fun f17 => hcut E f17)
    (yAt i (scAt i x3 x14) (baseAt i (codesAt i x3 x10) x4 x16) x5 (accAt i (word0 c i xt0) (word1 c i xt0) (startAt i x15) (slotsAt i (word0 c i xt0) (word1 c i xt0) (permAt i x3 x12) x13) (denseOf x6 x7 x8)) x9) (codesAt i x3 x10) (scalesAt i x3 x11) (permAt i x3 x12) (slotsAt i (word0 c i xt0) (word1 c i xt0) (permAt i x3 x12) x13) (scAt i x3 x14) (accAt i (word0 c i xt0) (word1 c i xt0) (startAt i x15) (slotsAt i (word0 c i xt0) (word1 c i xt0) (permAt i x3 x12) x13) (denseOf x6 x7 x8)) (baseAt i (codesAt i x3 x10) x4 x16) (startAt i x15) (denseOf x6 x7 x8)
    (fun f => read_denseL _ x6 x7 x8 f _ hL) h01 h24 h012
    (congrArg₂ (codesAt i) (load_full _ harg3 x3 _) (load_full _ harg10 x10 _))
    (congrArg₂ (scalesAt i) (load_full _ harg3 x3 _) (harg11.read_unread x11))
    (congrArg₂ (permAt i) (load_full _ harg3 x3 _) (load_full _ harg12 x12 _))
    (congrArg₂ (scAt i) (load_full _ harg3 x3 _) (harg14.read_unread x14))
    (congrArg (slotsAt i (word0 c i xt0) (word1 c i xt0) (permAt i x3 x12)) (harg13.read_unread x13))
    (congrArg₂ (baseAt i (codesAt i x3 x10)) (load_full _ harg4 x4 _) (load_full _ harg16 x16 _))
    (congrArg (startAt i) (load_full _ harg15 x15 _)) rfl
    (congr (congrArg (fun z => yAt i (scAt i x3 x14) (baseAt i (codesAt i x3 x10) x4 x16) z (accAt i (word0 c i xt0) (word1 c i xt0) (startAt i x15) (slotsAt i (word0 c i xt0) (word1 c i xt0) (permAt i x3 x12) x13) (denseOf x6 x7 x8))) (load_full _ harg5 x5 _)) (harg9.read_unread x9)))
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HT0]; · iexact HT0
  iintro ⟨H3, H4, H5, H6, H7, H8, H9, H10, H11, H12, H13, H14, H15, H16, H17, HT0⟩
  ihave H3 := (raw_owns c arg3 harg3 _) $$ H3
  ihave H4 := (raw_owns c arg4 harg4 _) $$ H4
  ihave H5 := (raw_owns c arg5 harg5 _) $$ H5
  ihave H6 := (raw_owns c arg6 harg6 _) $$ H6
  ihave H7 := (raw_owns c arg7 harg7 _) $$ H7
  ihave H8 := (raw_owns c arg8 harg8 _) $$ H8
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HT0

end Cert.Kernel.Hand
-- ==== Proof.Kernel.Ok.lean ====
/- The blocks of packed weights that the tenant offsets choose lie inside their arrays, whatever the offsets are. -/

module

public import proofs.«01_k».proof.Proof.Kernel.Kit

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tenant whose block a point fetches: its own, or the one before. -/
theorem tenant_lt (n : ℕ) (hn : n < 7) (b : BitVec 1) :
    (Scalar.select b (BitVec.ofNat 32 n) (Scalar.maxsi (Scalar.subi (BitVec.ofNat 32 n) 1#32) 0#32)).toNat < 7 := by
  have h : ∀ n : Fin 7, ∀ b : BitVec 1, (Scalar.select b (BitVec.ofNat 32 n.val) (Scalar.maxsi (Scalar.subi (BitVec.ofNat 32 n.val) 1#32) 0#32)).toNat < 7 := by decide
  exact h ⟨n, hn⟩ b

/-- There are 11 column blocks. -/
theorem coord0_lt (i : grid0.Coords) : (i 0).val < 11 := (i 0).isLt
/-- There are 7 tenants. -/
theorem coord1_lt (i : grid0.Coords) : (i 1).val < 7 := (i 1).isLt

/-- The pipeline's side condition of the table's contents holds of any contents. -/
theorem ok (pf : pre0.Contents (Elt F)) : ok0 pf := by
  refine ⟨fun i => ⟨fun a => ?_, .inr (.inr ⟨by decide, rfl, rfl, rfl⟩)⟩, fun i => ⟨fun a => ?_, .inr (.inr ⟨by decide, rfl, rfl, rfl⟩)⟩,
    fun i => ⟨fun a => ?_, .inr (.inr ⟨by decide, rfl, rfl, rfl⟩)⟩⟩
  all_goals
    have h0 := coord0_lt i
    have ht := tenant_lt (i 1).val (coord1_lt i) (Scalar.cmpi .sgt (pf.at 0 (Rect.unit (s := S8) (k0_off1 i) S1.size (k0_off1_inb i)) numel1_S1)
      (pf.at 0 (Rect.unit (s := S8) (k0_off2 i) S1.size (k0_off2_inb i)) numel1_S1))
    have e0 : (BitVec.ofNat 32 (i 0).val).toNat = (i 0).val := by simp; omega
    match a with
    | 0 => show (_ + 1) * 1 ≤ 7; rw [Nat.mul_one]; exact ht
    | 1 => show (0 + 1) * _ ≤ _; decide
    | 2 => show ((BitVec.ofNat 32 (i 0).val).toNat + 1) * 512 ≤ 5632; rw [e0]; omega

end Cert.Kernel.Hand
-- ==== Proof.Kernel.Frame.lean ====
/- The frame: with nothing said of the outputs and the scratch, the region runs and leaves every input as it was. -/

module

public import proofs.«01_k».proof.Proof.Kernel.Step
public import proofs.«01_k».proof.Proof.Kernel.Ok
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def fdats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ t := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem fA_eq (hO : Ok m) (c : Dev nD) (w : Fin (cfgM m hO).W) : (fdats m hO 0 c).A w = V m c (Pipeline.arrRef spec0 w) := by
  dsimp only [fdats]

/-- What the body leaves, window by window (the proof data's `match` reduced by `dsimp`). -/
theorem fafter0_0 (hO : Ok m) (c : Dev nD) (t : Fin (cfgM m hO).N) : (fdats m hO 0 c).after 0 t = iblk m hO c 0 t := by dsimp only [fdats]; try rfl
/-- What a point leaves in window 1. -/
theorem fafter0_1 (hO : Ok m) (c : Dev nD) (t : Fin (cfgM m hO).N) : (fdats m hO 0 c).after 1 t = iblk m hO c 1 t := by dsimp only [fdats]; try rfl
/-- What a point leaves in window 2. -/
theorem fafter0_2 (hO : Ok m) (c : Dev nD) (t : Fin (cfgM m hO).N) : (fdats m hO 0 c).after 2 t = iblk m hO c 2 t := by dsimp only [fdats]; try rfl
/-- What a point leaves in window 3. -/
theorem fafter0_3 (hO : Ok m) (c : Dev nD) (t : Fin (cfgM m hO).N) : (fdats m hO 0 c).after 3 t = iblk m hO c 3 t := by dsimp only [fdats]; try rfl
/-- What a point leaves in window 4. -/
theorem fafter0_4 (hO : Ok m) (c : Dev nD) (t : Fin (cfgM m hO).N) : (fdats m hO 0 c).after 4 t = iblk m hO c 4 t := by dsimp only [fdats]; try rfl
/-- What a point leaves in window 5. -/
theorem fafter0_5 (hO : Ok m) (c : Dev nD) (t : Fin (cfgM m hO).N) : (fdats m hO 0 c).after 5 t = iblk m hO c 5 t := by dsimp only [fdats]; try rfl

/-- Each input's current staging buffer holds its block at every point, fetched there or not (`beforeK_W_of`). -/
theorem fbefore0_0 (hO : Ok m) (c : Dev nD) (t : Fin (cfgM m hO).N) (d) : (fdats m hO 0 c).before 0 t d = iblk m hO c 0 t :=
  before0_0_of m hO (fdats m hO 0 c) (fA_eq m hO c 0) (fafter0_0 m hO c) t d
/-- What a point finds in window 1. -/
theorem fbefore0_1 (hO : Ok m) (c : Dev nD) (t : Fin (cfgM m hO).N) (d) : (fdats m hO 0 c).before 1 t d = iblk m hO c 1 t :=
  before0_1_of m hO (fdats m hO 0 c) (fA_eq m hO c 1) (fafter0_1 m hO c) t d
/-- What a point finds in window 2. -/
theorem fbefore0_2 (hO : Ok m) (c : Dev nD) (t : Fin (cfgM m hO).N) (d) : (fdats m hO 0 c).before 2 t d = iblk m hO c 2 t :=
  before0_2_of m hO (fdats m hO 0 c) (fA_eq m hO c 2) (fafter0_2 m hO c) t d
/-- What a point finds in window 3. -/
theorem fbefore0_3 (hO : Ok m) (c : Dev nD) (t : Fin (cfgM m hO).N) (d) : (fdats m hO 0 c).before 3 t d = iblk m hO c 3 t :=
  before0_3_of m hO (fdats m hO 0 c) (fA_eq m hO c 3) (fafter0_3 m hO c) t d
/-- What a point finds in window 4. -/
theorem fbefore0_4 (hO : Ok m) (c : Dev nD) (t : Fin (cfgM m hO).N) (d) : (fdats m hO 0 c).before 4 t d = iblk m hO c 4 t :=
  before0_4_of m hO (fdats m hO 0 c) (fA_eq m hO c 4) (fafter0_4 m hO c) t d
/-- What a point finds in window 5. -/
theorem fbefore0_5 (hO : Ok m) (c : Dev nD) (t : Fin (cfgM m hO).N) (d) : (fdats m hO 0 c).before 5 t d = iblk m hO c 5 t :=
  before0_5_of m hO (fdats m hO 0 c) (fA_eq m hO c 5) (fafter0_5 m hO c) t d

/-! ## The body obligation, at a generic point -/

/-- What the body is called with at point `t` (Lib/Pipeline.lean `BodyObligation`'s precondition, the windows one by one), -/
def fbodyPre (hO : Ok m) (c : Dev nD) (t : Fin (cfgM m hO).N) : sProp 𝕄 :=
  iprop((fdats m hO 0 c).Φ t.castSucc ∗ (fdats m hO 0 c).owesAt () t.castSucc
    ∗ (∃ d, owns (c : Thread nD τ) (ms0_0 m hO t) fullShare ((fdats m hO 0 c).before 0 t d))
    ∗ (∃ d, owns (c : Thread nD τ) (ms0_1 m hO t) fullShare ((fdats m hO 0 c).before 1 t d))
    ∗ (∃ d, owns (c : Thread nD τ) (ms0_2 m hO t) fullShare ((fdats m hO 0 c).before 2 t d))
    ∗ (∃ d, owns (c : Thread nD τ) (ms0_3 m hO t) fullShare ((fdats m hO 0 c).before 3 t d))
    ∗ (∃ d, owns (c : Thread nD τ) (ms0_4 m hO t) fullShare ((fdats m hO 0 c).before 4 t d))
    ∗ (∃ d, owns (c : Thread nD τ) (ms0_5 m hO t) fullShare ((fdats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def fbodyPost (hO : Ok m) (c : Dev nD) (t : Fin (cfgM m hO).N) : sProp 𝕄 :=
  iprop((fdats m hO 0 c).Φ t.succ ∗ (fdats m hO 0 c).owesAt () t.succ
    ∗ (fdats m hO 0 c).leavesExact 0 t
    ∗ (fdats m hO 0 c).leavesExact 1 t
    ∗ (fdats m hO 0 c).leavesExact 2 t
    ∗ (fdats m hO 0 c).leavesExact 3 t
    ∗ (fdats m hO 0 c).leavesExact 4 t
    ∗ (fdats m hO 0 c).leavesExact 5 t
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

set_option maxHeartbeats 4000000 in
/-- The body at any point: the inputs' buffers hold their blocks, everything else anything, before and after. -/
theorem fsound_body (hO : Ok m) (c : Dev nD) (t : Fin (cfgM m hO).N) :
    fbodyPre m hO c t ⊢ wp frame (wpE (defs₀ (F := F)) Variants.none c none) Set.univ (bodyAt0 (adm m hO) t) (fun _ => fbodyPost m hO c t) := by
  unfold fbodyPre fbodyPost bodyAt0
  simp only [fbefore0_0, fbefore0_1, fbefore0_2, fbefore0_3, fbefore0_4, fbefore0_5]
  rw [show (fdats m hO 0 c).owesAt () t.succ = (fdats m hO 0 c).owesAt () t.castSucc from rfl]
  rw [show (fdats m hO 0 c).Φ t.succ = iprop(Pipeline.ΦA spec0 c ∗ Pipeline.ΦT pre0 (tbl m) c) from rfl, show (fdats m hO 0 c).Φ t.castSucc = iprop(Pipeline.ΦA spec0 c ∗ Pipeline.ΦT pre0 (tbl m) c) from rfl, PhiT0_eq, PhiA0_eq]
  have hN : t.val < 77 := lt_of_lt_of_eq t.isLt (show (cfgM m hO).N = 77 from N_0)
  rw [show (fdats m hO 0 c).leavesExact 0 t = owns (c : Thread nD τ) (ms0_0 m hO t) fullShare ((fdats m hO 0 c).after 0 t) from by
    unfold Dat.leavesExact; rw [liveAt0_0 m hO t]; try rfl, fafter0_0]
  rw [show (fdats m hO 0 c).leavesExact 1 t = owns (c : Thread nD τ) (ms0_1 m hO t) fullShare ((fdats m hO 0 c).after 1 t) from by
    unfold Dat.leavesExact; rw [liveAt0_1 m hO t]; try rfl, fafter0_1]
  rw [show (fdats m hO 0 c).leavesExact 2 t = owns (c : Thread nD τ) (ms0_2 m hO t) fullShare ((fdats m hO 0 c).after 2 t) from by
    unfold Dat.leavesExact; rw [liveAt0_2 m hO t]; try rfl, fafter0_2]
  rw [show (fdats m hO 0 c).leavesExact 3 t = owns (c : Thread nD τ) (ms0_3 m hO t) fullShare ((fdats m hO 0 c).after 3 t) from by
    unfold Dat.leavesExact; rw [liveAt0_3 m hO t]; try rfl, fafter0_3]
  rw [show (fdats m hO 0 c).leavesExact 4 t = owns (c : Thread nD τ) (ms0_4 m hO t) fullShare ((fdats m hO 0 c).after 4 t) from by
    unfold Dat.leavesExact; rw [liveAt0_4 m hO t]; try rfl, fafter0_4]
  rw [show (fdats m hO 0 c).leavesExact 5 t = owns (c : Thread nD τ) (ms0_5 m hO t) fullShare ((fdats m hO 0 c).after 5 t) from by
    unfold Dat.leavesExact; rw [liveAt0_5 m hO t]; try rfl, fafter0_5]
  iintro ⟨⟨⟨⟨⟨%e0, HS0⟩, ⟨%e1, HS1⟩, ⟨%e2, HS2⟩, ⟨%e3, HS3⟩, ⟨%e4, HS4⟩, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyStep c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m hO c 0 t) (iblk m hO c 1 t) (iblk m hO c 2 t) (iblk m hO c 3 t) (iblk m hO c 4 t) (iblk m hO c 5 t) d6 d7 d8 e0 e1 e2 e3 e4 (tbl m 0) Set.univ _
    (fun h => ⟨(hcond0_1 t).mpr (by have := (hcond0_0 t).mp h; omega), (hcond0_2 t).mpr (by have := (hcond0_0 t).mp h; omega)⟩)
    (fun h h' => by have := (hcond0_2 t).mp h; have := (hcond0_4 t).mp h'; omega)
    (fun h h' => (hcond0_0 t).mpr (by have := (hcond0_1 t).mp h; have := (hcond0_2 t).mp h'; omega)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]; · iexists _; iexact HS0
        isplitl [HS1]; · iexists _; iexact HS1
        isplitl [HS2]; · iexists _; iexact HS2
        isplitl [HS3]; · iexists _; iexact HS3
        isplitl [HS4]; · iexists _; iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem fbody_obligation (hO : Ok m) (c : Dev nD) : BodyObligation (fdats (F := F) m hO 0 c) (defs₀ (F := F)) Variants.none () Set.univ forgets0 := fun t => by
  rw [bigSep_W0, bigSep_W0, defs₀_row m hO]
  exact triple_restated (fsound_body m hO c t) rfl .rfl fun _ => .rfl

/-- What the launch hands the region is the invariant, and the invariant gives it back. -/
theorem fhin (hO : Ok m) (c : Dev nD) : iprop(Pipeline.ΦA spec0 c ∗ Pipeline.ΦT pre0 (tbl m) c) ⊢ (fdats m hO 0 c).Φ 0 := by
  rw [show (fdats m hO 0 c).Φ 0 = iprop(Pipeline.ΦA spec0 c ∗ Pipeline.ΦT pre0 (tbl m) c) from rfl]
/-- After the last point the frame's invariant gives back the buffers. -/
theorem fhout (hO : Ok m) (c : Dev nD) : (fdats m hO 0 c).Φ (Fin.last (cfgM m hO).N) ⊢ Pipeline.ΦA spec0 c := by
  rw [show (fdats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (fdats m hO 0 c).toRForget forgets0) (V m)) r ∧ r.2.sem = fun _ => 0) :=
  Pipeline.θ_run_frameP_track_forget (Q' := _) pcfgs (fun _ => adm m hO) (fdats m hO) (0 : Fin 1) launch0 defs₀ Variants.none forgets0 m ρ main
    (hbody := fun c => (fbody_obligation m hO c).loose) (hshare := fun c => (fdats m hO 0 c).share_full fun _ => rfl)
    (howed := fun _ _ => rfl) (V := V m) (hmain := hmain m Variants.none) (hA := fA_eq m hO) (hpf := V_pre m) (hin := fhin m hO) (hout := fhout m hO)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (fdats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (fdats m hO 0 c).toRForget forgets0) (fA_eq m hO) (run_main m ρ hO)

/-- The frame: the kernel runs to its end from every memory and leaves its arguments as they were. -/
theorem frame_claim (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Hand
-- ==== Proof.KernelIdeal.Kit.lean ====
/- What the run of the kernel is stated over: its schedule on the grid, the contents of the buffers when the
   pipeline starts, the tenant offsets as the prefetched table, the blocks of the windows, the branch conditions of the
   body in closed form, and the staging and scratch buffers by name. -/

module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 77 = 0 :=
  (fun t => Pipeline.Window.fetchOf_const cc0_transform_0 (fun _ _ => rfl) (n := 77) (by decide) t : ∀ t : Fin grid0.N, Pipeline.Window.fetchOf grid0 false cc0_transform_0 t = true ↔ t.val % 77 = 0)
/-- Window 1 (operand 2 (%arg1)) is fetched at the points ≡ 0 (mod 7), at any contents of the tables (its index map reads none). -/
theorem fetch0_1 (a : (pcfg0 (F := F)).Adm) : ∀ t : Fin (cfg0 a).N, ((cfg0 a).win 1).fetch t = true ↔ t.val % 7 = 0 :=
  (fun t => Pipeline.Window.fetchOf_reads cc0_transform_1 reads0_1 hreads0_1 0 (by decide) (by decide) (Pipeline.Window.sep_of_coord cc0_transform_1 0 1 (fun _ => rfl) (by decide)) (P := 7) (by decide) t : ∀ t : Fin grid0.N, Pipeline.Window.fetchOf grid0 false cc0_transform_1 t = true ↔ t.val % 7 = 0)
/-- Window 2 (operand 3 (%1)) is fetched at the points ≡ 0 (mod 7), at any contents of the tables (its index map reads none). -/
theorem fetch0_2 (a : (pcfg0 (F := F)).Adm) : ∀ t : Fin (cfg0 a).N, ((cfg0 a).win 2).fetch t = true ↔ t.val % 7 = 0 :=
  (fun t => Pipeline.Window.fetchOf_reads cc0_transform_2 reads0_2 hreads0_2 0 (by decide) (by decide) (Pipeline.Window.sep_of_coord cc0_transform_2 0 1 (fun _ => rfl) (by decide)) (P := 7) (by decide) t : ∀ t : Fin grid0.N, Pipeline.Window.fetchOf grid0 false cc0_transform_2 t = true ↔ t.val % 7 = 0)
/-- Window 6 (result 0 (%2#0)) is written back at the points ≡ 6 (mod 7), at any contents of the tables (its index map reads none). -/
theorem flush0_6 (a : (pcfg0 (F := F)).Adm) : ∀ t : Fin (cfg0 a).N, ((cfg0 a).win 6).flush t = true ↔ t.val % 7 = 6 :=
  (fun t => Pipeline.Window.flushOf_reads cc0_transform_6 reads0_6 hreads0_6 0 (by decide) (by decide) (Pipeline.Window.sep_of_coord cc0_transform_6 0 1 (fun _ => rfl) (by decide)) (P := 7) (m := 6) (by decide) rfl t : ∀ t : Fin grid0.N, Pipeline.Window.flushOf grid0 true cc0_transform_6 t = true ↔ t.val % 7 = 6)
/-- Window 7 (result 1 (%2#1)) is written back at the last point only, at any contents of the tables (its index map reads none). -/
theorem flush0_7 (a : (pcfg0 (F := F)).Adm) : ∀ t : Fin (cfg0 a).N, ((cfg0 a).win 7).flush t = true ↔ t.val % 77 = 76 :=
  (fun t => Pipeline.Window.flushOf_const cc0_transform_7 (fun _ _ => rfl) (n := 77) (by decide) rfl t : ∀ t : Fin grid0.N, Pipeline.Window.flushOf grid0 true cc0_transform_7 t = true ↔ t.val % 77 = 76)
/-- Window 8 (result 2 (%2#2)) is written back at the last point only, at any contents of the tables (its index map reads none). -/
theorem flush0_8 (a : (pcfg0 (F := F)).Adm) : ∀ t : Fin (cfg0 a).N, ((cfg0 a).win 8).flush t = true ↔ t.val % 77 = 76 :=
  (fun t => Pipeline.Window.flushOf_const cc0_transform_8 (fun _ _ => rfl) (n := 77) (by decide) rfl t : ∀ t : Fin grid0.N, Pipeline.Window.flushOf grid0 true cc0_transform_8 t = true ↔ t.val % 77 = 76)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_delta_projection (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations write each buffer once. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      ((h c).2 main_arg2 (by decide : main_arg2 ∈ Pipeline.restRefs sig spec0)).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 77 = 0 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 77 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 7 — by arithmetic of the point. -/
theorem hcond0_1 : ∀ t : Fin grid0.N, cond0_1 (grid0.coords t) ↔ t.val < 7 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val < 7)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_2 : ∀ t : Fin grid0.N, cond0_2 (grid0.coords t) ↔ t.val % 7 = 0 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_2, e0, e1]
    word_cmp
   : ∀ t : Fin grid0.N, cond0_2 (grid0.coords t) ↔ t.val % 7 = 0)

/-- The condition of the body's `scf.if` 3: over WORDS the body reads from its tables or input SMEM windows
    (`v6`, `v9`), so no function of the point — a case variable: a hypothesis of each run, a `by_cases`
    of the obligation and an `if` of `outsAt`, stated over the argument blocks' words there. -/
abbrev cond0_3 (i : grid0.Coords) (v6 : BitVec 32) (v9 : BitVec 32) : Prop := (Scalar.cmpi .ne (Scalar.extui (Scalar.cmpi .sgt v9 v6)) 0#32) = 1#1

/-- The condition of the body's `scf.if` 4 (`k0_h5`), from the grid coordinates (the skeleton's scalar
    chain substituted). -/
abbrev cond0_4 (i : grid0.Coords) : Prop := k0_cond5 i = 1#1
/-- It holds at the points ≡ 6 (mod 7) — by arithmetic of the point. -/
theorem hcond0_4 : ∀ t : Fin grid0.N, cond0_4 (grid0.coords t) ↔ t.val % 7 = 6 :=
  (fun t => by
    have ht : t.val < 77 := Nat.lt_of_lt_of_eq t.isLt N_0
    have e0 : (grid0.coords t 0).val = t.val / 7 % 11 := Pipeline.Grid.coords_val t 0 (by decide) rfl
    have e1 : (grid0.coords t 1).val = t.val / 1 % 7 := Pipeline.Grid.coords_val t 1 (by decide) rfl
    simp only [cond0_4, k0_cond5, e0, e1]
    word_cmp
   : ∀ t : Fin grid0.N, cond0_4 (grid0.coords t) ↔ t.val % 7 = 6)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S128x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2048x512 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x512 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x512 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x16x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S128x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x2048 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S128x2048 .bf16 := Memref.whole cc0_scratch0
abbrev scM0_1 : Memref sig .tc .vmem S7x128x2048 .bf16 := Memref.whole cc0_scratch1
abbrev scM0_2 : Memref sig .tc .vmem S128x128 .f32 := Memref.whole cc0_scratch2
abbrev scM0_3 : Memref sig .tc .vmem S128x512 .f32 := Memref.whole cc0_scratch3
abbrev scM0_4 : Memref sig .tc .vmem S128x512 .f32 := Memref.whole cc0_scratch4
abbrev scM0_5 : Memref sig .tc .vmem S2048x512 .bf16 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KernelIdeal.Values.lean ====
/- What one point of the kernel's grid leaves in each buffer, as functions of what it found there. -/

module

public import proofs.«01_k».proof.Proof.KernelIdeal.Kit
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activation codes of a block of rows. -/
def codesOf (x3 : Vec F S128x2048 .bf16) : Vec F S128x2048 .fp8e4m3 := k0_pay12 (k0_pay10 x3) (k0_pay11 (F := F))

/-- The scales of the rows, as a column, as the column repeated, and as a row. -/
def colOf (x3 : Vec F S128x2048 .bf16) : FVec F S128x1 .f32 := k0_pay9 x3
/-- The scales as a tile. -/
def scOf (x3 : Vec F S128x2048 .bf16) : Vec F S128x128 .f32 := k0_pay14 (colOf x3)
/-- The scales as a row. -/
def scalesOf (x3 : Vec F S128x2048 .bf16) : Vec F S1x128 .f32 := k0_pay15 (colOf x3)

/-- The codes with their columns in the order of the dense rows: the eight stores that write them, last first. -/
def permL (x3 : Vec F S128x2048 .bf16) : List (View.Piece (Elt F) S128x2048 .bf16) :=
  let v94 := k0_pay16 (F := F)
  let v95 := k0_pay17 (k0_pay10 x3) (k0_pay11 (F := F))
  [⟨Rect.unit (s := S128x2048) ![0, 1792] S128x256.size inb_S128x2048_S128x256_0_1792, k0_pay1 (k0_pay26 v94 v95)⟩,
   ⟨Rect.unit (s := S128x2048) ![0, 1536] S128x256.size inb_S128x2048_S128x256_0_1536, k0_pay25 v94 v95⟩,
   ⟨Rect.unit (s := S128x2048) ![0, 1280] S128x256.size inb_S128x2048_S128x256_0_1280, k0_pay24 v94 v95⟩,
   ⟨Rect.unit (s := S128x2048) ![0, 1024] S128x256.size inb_S128x2048_S128x256_0_1024, k0_pay23 v94 v95⟩,
   ⟨Rect.unit (s := S128x2048) ![0, 768] S128x256.size inb_S128x2048_S128x256_0_768, k0_pay22 v94 v95⟩,
   ⟨Rect.unit (s := S128x2048) ![0, 512] S128x256.size inb_S128x2048_S128x256_0_512, k0_pay21 v94 v95⟩,
   ⟨Rect.unit (s := S128x2048) ![0, 256] S128x256.size inb_S128x2048_S128x256_0_256, k0_pay20 (k0_pay19 (k0_pay10 x3) (k0_pay11 (F := F)))⟩,
   ⟨Rect.unit (s := S128x2048) ![0, 0] S128x256.size inb_S128x2048_S128x256_0_0, k0_pay18 (k0_pay10 x3) (k0_pay11 (F := F))⟩]
/-- The permuted codes. -/
def permOf (x3 : Vec F S128x2048 .bf16) : Vec F S128x2048 .bf16 := View.canon (permL x3)

/-- The eight stores cover the array. -/
theorem perm_cover (x3 : Vec F S128x2048 .bf16) (y : S128x2048.Idx) : ∃ p ∈ permL x3, y ∈ p.1.set :=
  View.cover_of_tiledL (permL x3) S128x256.size (by sl_kernel_rfl) y

/-- The masked codes with the slot of the point's tenant replaced, and the slot of the point's tenant. -/
def slotsOf (i : grid0.Coords) (o0 o1 : Elt F .i32) (xp : Vec F S128x2048 .bf16) (xm : Vec F S7x128x2048 .bf16) : Vec F S7x128x2048 .bf16 :=
  VecWindow.put xm (k0_off3 i) S1x128x2048.size (k0_pay2 o0 o1 xp)
/-- The slot of masked codes a point reads. -/
def slotOf (i : grid0.Coords) (xm : Vec F S7x128x2048 .bf16) : Vec F S1x128x2048 .bf16 :=
  View.ld (Val := Elt F) (e' := .bf16) xm (Rect.unit (s := S7x128x2048) (k0_off4 i) S1x128x2048.size (k0_off4_inb i))

open Classical in
/-- What each buffer the body stores into holds after the body. -/
def codesAt (i : grid0.Coords) (x3 : Vec F S128x2048 .bf16) (x10 : Vec F S128x2048 .fp8e4m3) : Vec F S128x2048 .fp8e4m3 :=
  if cond0_0 i then codesOf x3 else x10
open Classical in
/-- What a point leaves in the row of scales. -/
def scalesAt (i : grid0.Coords) (x3 : Vec F S128x2048 .bf16) (x11 : Vec F S1x128 .f32) : Vec F S1x128 .f32 :=
  if cond0_0 i then scalesOf x3 else x11
open Classical in
/-- What a point leaves in the permuted codes. -/
def permAt (i : grid0.Coords) (x3 : Vec F S128x2048 .bf16) (x12 : Vec F S128x2048 .bf16) : Vec F S128x2048 .bf16 :=
  if cond0_0 i then permOf x3 else x12
open Classical in
/-- What a point leaves in the tile of scales. -/
def scAt (i : grid0.Coords) (x3 : Vec F S128x2048 .bf16) (x14 : Vec F S128x128 .f32) : Vec F S128x128 .f32 :=
  if cond0_0 i then scOf x3 else x14
open Classical in
/-- What a point leaves in the slots of masked codes. -/
def slotsAt (i : grid0.Coords) (o0 o1 : Elt F .i32) (xp : Vec F S128x2048 .bf16) (x13 : Vec F S7x128x2048 .bf16) : Vec F S7x128x2048 .bf16 :=
  if cond0_1 i then slotsOf i o0 o1 xp x13 else x13
open Classical in
/-- What a point leaves in the base product. -/
def baseAt (i : grid0.Coords) (codes : Vec F S128x2048 .fp8e4m3) (x4 : Vec F S2048x512 .fp8e4m3) (x16 : Vec F S128x512 .f32) : Vec F S128x512 .f32 :=
  if cond0_2 i then k0_pay3 codes x4 else x16
open Classical in
/-- The accumulated product a point starts from. -/
def startAt (i : grid0.Coords) (x15 : Vec F S128x512 .f32) : Vec F S128x512 .f32 :=
  if cond0_2 i then k0_pay4 else x15
open Classical in
/-- What a point leaves in the accumulated product. -/
def accAt (i : grid0.Coords) (o0 o1 : Elt F .i32) (acc : Vec F S128x512 .f32) (xm : Vec F S7x128x2048 .bf16) (dense : Vec F S2048x512 .bf16) : Vec F S128x512 .f32 :=
  if cond0_3 i o0 o1 then k0_pay5 acc (slotOf i xm) dense else acc
/-- The output block from the scale column, the base product, the base scales and the accumulated product. -/
def yOf (sc : Vec F S128x128 .f32) (base : Vec F S128x512 .f32) (x5 : Vec F S1x512 .f32) (acc : Vec F S128x512 .f32) : Vec F S128x512 .bf16 :=
  k0_pay6 (View.ld (Val := Elt F) (e' := .f32) sc (Rect.unit (s := S128x128) ![0, 0] S128x1.size inb_S128x128_S128x1_0_0)) base x5 acc
open Classical in
/-- What a point leaves in the output block. -/
def yAt (i : grid0.Coords) (sc : Vec F S128x128 .f32) (base : Vec F S128x512 .f32) (x5 : Vec F S1x512 .f32) (acc : Vec F S128x512 .f32) (x9 : Vec F S128x512 .bf16) : Vec F S128x512 .bf16 :=
  if cond0_4 i then yOf sc base x5 acc else x9

/-- The offset word the body reads first and the one it reads second, from the table's contents. -/
def word0 (c : Dev nD) (i : grid0.Coords) (xt0 : TbBuf0 (F := F) c tbM0_0) : Elt F .i32 :=
  tbM0_0.view.readAt (Elt F) (Rect.unit (s := S8) (k0_off2 i) S1.size (k0_off2_inb i)).toLoadRect xt0 (Shape.Idx.first (numel1_S1.symm ▸ Nat.one_pos))
/-- The second offset a point reads. -/
def word1 (c : Dev nD) (i : grid0.Coords) (xt0 : TbBuf0 (F := F) c tbM0_0) : Elt F .i32 :=
  tbM0_0.view.readAt (Elt F) (Rect.unit (s := S8) (k0_off1 i) S1.size (k0_off1_inb i)).toLoadRect xt0 (Shape.Idx.first (numel1_S1.symm ▸ Nat.one_pos))

/-- A load of the slot just stored reads the slot's payload out of the slots it was put in. -/
theorem slot_put (i : grid0.Coords) (v : View sig .tc .vmem S7x128x2048 .bf16) (w : Vec F S1x128x2048 .bf16) (inb) (xm : Vec F S7x128x2048 .bf16) :
    v.readCov [(⟨Rect.unit (s := S7x128x2048) (k0_off3 i) S1x128x2048.size inb, w⟩ : View.Piece (Elt F) S7x128x2048 .bf16)]
      (Rect.unit (s := S7x128x2048) (k0_off4 i) S1x128x2048.size (k0_off4_inb i)).toLoadRect
      = slotOf i (VecWindow.put xm (k0_off3 i) S1x128x2048.size w) := by
  have e : slotOf i (VecWindow.put xm (k0_off3 i) S1x128x2048.size w) = w :=
    VecWindow.window_put_same xm (k0_off3 i) S1x128x2048.size (k0_off4_inb i) w
  rw [e, View.readCov_eq_canon']
  funext j
  exact View.canon_cons_emb _ _ _ j

end Cert.KernelIdeal.Hand
-- ==== Proof.KernelIdeal.Dense.lean ====
/- The segment of the body that expands a tenant's packed block to a dense one: what its stores leave in the dense
   scratch, as pieces, on any staging buffers. -/

module

public import proofs.«01_k».proof.Proof.KernelIdeal.Kit

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the expansion of a packed block writes into the dense scratch (last first) and the row block it hands on,
    with the proof that it runs, on whole buffers, from the packed block's contents to those pieces written. -/
noncomputable def denseRun (c : Dev nD) (i : grid0.Coords) (arg2 : Memref sig .tc .smem S8 .i32) (harg2 : arg2.IsWhole) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x6 : Vec F S1x512x512 .i8) (x7 : Vec F S1x256x512 .i8) (x8 : Vec F S1x16x512 .bf16) :
    Σ' (R : FVec F S32x512 .bf16), { L : List (View.Piece (Elt F) S2048x512 .bf16) //
      ∀ (E : Set ℕ) (f17 : Buf (Elt F) (arg17.view.loc (c : Thread nD τ))),
        (iprop((arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} f17)) : sProp 𝕄)
          ⊢ wp frame (wpE (defs₀ (F := F)) Variants.none c none) E (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun r => iprop(⌜r = R⌝ ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} arg17.view.writes (Elt F) f17 L))) } := by
  refine ⟨?_, ?_, fun E f17 => ?run⟩
  case run =>
    iintro ⟨H6, H7, H8, H17⟩
    simp only [k0_part37_eq_skeleton]; unfold k0_part37_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    sl_exec
    sl_step
    isplitr
    · ipureintro; rfl
    isplitl [H6]; · iexact H6
    isplitl [H7]; · iexact H7
    isplitl [H8]; · iexact H8
    iexact H17

end Cert.KernelIdeal.Hand
-- ==== Proof.KernelIdeal.Body.lean ====
/- The body of the kernel at any point of the grid, on any staging buffers: it runs, gives its inputs back, and leaves in
   every other buffer what `Values` says. -/

module

public import proofs.«01_k».proof.Proof.KernelIdeal.Values
public import proofs.«01_k».proof.Proof.KernelIdeal.Dense

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of the whole array after the eight stores of the permuted codes reads what they leave. -/
theorem perm_load (v : View sig .tc .vmem S128x2048 .bf16) (x3 : Vec F S128x2048 .bf16) :
    v.readCov (permL x3) (Rect.unit (s := S128x2048) ![0, 0] S128x2048.size inb_S128x2048_S128x2048_0_0).toLoadRect = permOf x3 := by
  rw [View.readCov_eq_canon']
  funext j
  exact congrArg (View.canon (permL x3)) (funext fun a => Fin.ext (by
    show (![0, 0] : Fin 2 → ℕ) a + 1 * (j a).val = (j a).val
    fin_cases a <;> simp))

/-- Equal codes, equal masked codes. -/
theorem pay2_congr (o0 o1 : Elt F .i32) {a a' : Vec F S128x2048 .bf16} (h : a = a') : k0_pay2 o0 o1 a = k0_pay2 o0 o1 a' := by rw [h]
/-- Equal codes, equal base products. -/
theorem pay3_congr {a a' : Vec F S128x2048 .fp8e4m3} (w : Vec F S2048x512 .fp8e4m3) (h : a = a') : k0_pay3 a w = k0_pay3 a' w := by rw [h]
/-- Equal operands, equal accumulated products. -/
theorem pay5_congr {a a' : Vec F S128x512 .f32} {b b' : Vec F S1x128x2048 .bf16} {d d' : Vec F S2048x512 .bf16} (ha : a = a') (hb : b = b') (hd : d = d') :
    k0_pay5 a b d = k0_pay5 a' b' d' := by rw [ha, hb, hd]
/-- Equal operands, equal output blocks. -/
theorem pay6_congr (sc : Vec F S128x1 .f32) (b : Vec F S128x512 .f32) (x : Vec F S1x512 .f32) {a a' : Vec F S128x512 .f32} (h : a = a') :
    k0_pay6 sc b x a = k0_pay6 sc b x a' := by rw [h]

/-- The six ways the four conditions on the grid point can go. -/
theorem sixCases {a b c d : Prop} (h01 : a → b ∧ c) (h24 : c → ¬ d) (h012 : b → c → a) :
    (a ∧ b ∧ c ∧ ¬ d) ∨ (¬ a ∧ b ∧ ¬ c ∧ d) ∨ (¬ a ∧ b ∧ ¬ c ∧ ¬ d) ∨ (¬ a ∧ ¬ b ∧ c ∧ ¬ d)
      ∨ (¬ a ∧ ¬ b ∧ ¬ c ∧ d) ∨ (¬ a ∧ ¬ b ∧ ¬ c ∧ ¬ d) := by tauto

set_option maxHeartbeats 8000000 in
/-- The body, in every case of its conditions. The tenant's block is expanded by the segment `hcut` specifies, whose stores,
    with the row block it hands on, leave `D` in the dense scratch. -/
theorem bodyRun (c : Dev nD) (i : grid0.Coords) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (xt0 : TbBuf0 (F := F) c tbM0_0)
    (E : Set ℕ) (K : PUnit → sProp 𝕄) (RR : FVec F S32x512 .bf16) (LL : List (View.Piece (Elt F) S2048x512 .bf16))
    (hcut : ∀ f17, (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} f17)) : sProp 𝕄)
      ⊢ wp frame (wpE (defs₀ (F := F)) Variants.none c none) E (k0_part37 i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = RR⌝ ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} arg17.view.writes (Elt F) f17 LL))))
    (v9 : Vec F S128x512 .bf16) (v10 : Vec F S128x2048 .fp8e4m3) (v11 : Vec F S1x128 .f32) (v12 : Vec F S128x2048 .bf16) (v13 : Vec F S7x128x2048 .bf16) (v14 : Vec F S128x128 .f32) (v15 : Vec F S128x512 .f32) (v16 : Vec F S128x512 .f32) (s15 : Vec F S128x512 .f32) (D : Vec F S2048x512 .bf16)
    (hD : ∀ f, arg17.view.read (Elt F) (arg17.view.writes (Elt F) f ((⟨Rect.unit (s := S2048x512) ![2016, 0] S32x512.size inb_S2048x512_S32x512_2016_0, RR⟩ : View.Piece (Elt F) S2048x512 .bf16) :: LL)) = D)
    (h01 : cond0_0 i → cond0_1 i ∧ cond0_2 i) (h24 : cond0_2 i → ¬ cond0_4 i) (h012 : cond0_1 i → cond0_2 i → cond0_0 i)
    (e10 : codesAt i (arg3.view.readAt (Elt F) (Rect.unit (s := S128x2048) ![0, 0] S128x2048.size inb_S128x2048_S128x2048_0_0).toLoadRect f3) (arg10.view.readAt (Elt F) (Rect.unit (s := S128x2048) ![0, 0] S128x2048.size inb_S128x2048_S128x2048_0_0).toLoadRect f10) = v10) (e11 : scalesAt i (arg3.view.readAt (Elt F) (Rect.unit (s := S128x2048) ![0, 0] S128x2048.size inb_S128x2048_S128x2048_0_0).toLoadRect f3) (arg11.view.read (Elt F) f11) = v11)
    (e12 : permAt i (arg3.view.readAt (Elt F) (Rect.unit (s := S128x2048) ![0, 0] S128x2048.size inb_S128x2048_S128x2048_0_0).toLoadRect f3) (arg12.view.readAt (Elt F) (Rect.unit (s := S128x2048) ![0, 0] S128x2048.size inb_S128x2048_S128x2048_0_0).toLoadRect f12) = v12) (e14 : scAt i (arg3.view.readAt (Elt F) (Rect.unit (s := S128x2048) ![0, 0] S128x2048.size inb_S128x2048_S128x2048_0_0).toLoadRect f3) (arg14.view.read (Elt F) f14) = v14)
    (e13 : slotsAt i (word0 c i xt0) (word1 c i xt0) v12 (arg13.view.read (Elt F) f13) = v13) (e16 : baseAt i v10 (arg4.view.readAt (Elt F) (Rect.unit (s := S2048x512) ![0, 0] S2048x512.size inb_S2048x512_S2048x512_0_0).toLoadRect f4) (arg16.view.readAt (Elt F) (Rect.unit (s := S128x512) ![0, 0] S128x512.size inb_S128x512_S128x512_0_0).toLoadRect f16) = v16)
    (es : startAt i (arg15.view.readAt (Elt F) (Rect.unit (s := S128x512) ![0, 0] S128x512.size inb_S128x512_S128x512_0_0).toLoadRect f15) = s15) (e15 : accAt i (word0 c i xt0) (word1 c i xt0) s15 v13 D = v15)
    (e9 : yAt i v14 v16 (arg5.view.readAt (Elt F) (Rect.unit (s := S1x512) ![0, 0] S1x512.size inb_S1x512_S1x512_0_0).toLoadRect f5) v15 (arg9.view.read (Elt F) f9) = v9) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ tbPt0 c tbM0_0 xt0
      ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ owns (c : Thread nD τ) arg9 fullShare v9 ∗ owns (c : Thread nD τ) arg10 fullShare v10 ∗ owns (c : Thread nD τ) arg11 fullShare v11 ∗ owns (c : Thread nD τ) arg12 fullShare v12 ∗ owns (c : Thread nD τ) arg13 fullShare v13 ∗ owns (c : Thread nD τ) arg14 fullShare v14 ∗ owns (c : Thread nD τ) arg15 fullShare v15 ∗ owns (c : Thread nD τ) arg16 fullShare v16 ∗ (∃ d, owns (c : Thread nD τ) arg17 fullShare d) ∗ tbPt0 c tbM0_0 xt0) -∗ K ⟨⟩)) : sProp 𝕄)
      ⊢ wp frame (wpE (defs₀ (F := F)) Variants.none c none) E (cc0_delta_projection i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_delta_projection_eq_skeleton]; unfold cc0_delta_projection_skel
  simp only [k0_part1_eq_skeleton, k0_part2_eq_skeleton, k0_part3_eq_skeleton]
  unfold owns
  iintro ⟨H3, H4, H5, H6, H7, H8, H9, H10, H11, H12, H13, H14, H15, H16, H17, HT0, Hk⟩
  have r3 : cond0_3 i (word0 c i xt0) (word1 c i xt0) ∨ ¬ cond0_3 i (word0 c i xt0) (word1 c i xt0) := em _
  have r0 := sixCases h01 h24 h012
  rcases r3 with hc3 | hc3 <;>
  rcases r0 with ⟨hc0, hc1, hc2, hc4⟩ | ⟨hc0, hc1, hc2, hc4⟩ | ⟨hc0, hc1, hc2, hc4⟩ | ⟨hc0, hc1, hc2, hc4⟩ | ⟨hc0, hc1, hc2, hc4⟩ | ⟨hc0, hc1, hc2, hc4⟩
  all_goals
  first | rw [codesAt, if_pos hc0] at e10 | rw [codesAt, if_neg hc0] at e10
  first | rw [scalesAt, if_pos hc0] at e11 | rw [scalesAt, if_neg hc0] at e11
  first | rw [permAt, if_pos hc0] at e12 | rw [permAt, if_neg hc0] at e12
  first | rw [scAt, if_pos hc0] at e14 | rw [scAt, if_neg hc0] at e14
  first | rw [slotsAt, if_pos hc1] at e13 | rw [slotsAt, if_neg hc1] at e13
  first | rw [baseAt, if_pos hc2] at e16 | rw [baseAt, if_neg hc2] at e16
  first | rw [startAt, if_pos hc2] at es | rw [startAt, if_neg hc2] at es
  first | rw [accAt, if_pos hc3] at e15 | rw [accAt, if_neg hc3] at e15
  first | rw [yAt, if_pos hc4] at e9 | rw [yAt, if_neg hc4] at e9
  subst e9 e15 es e16 e13 e14 e12 e11 e10
  sl_exec (disch := first | sl_exact hc0 | sl_exact hc1 | sl_exact hc2 | sl_exact hc4 | sl_exact hc3)
  try subst hk0_part37_0
  sl_step
  iapply Hk
  isplitl [H3]; · iexact H3
  isplitl [H4]; · iexact H4
  isplitl [H5]; · iexact H5
  first
  | isplitl [H6]; · iexact H6
    isplitl [H7]; · iexact H7
    isplitl [H8]; · iexact H8
  | isplitl [Hk0_part37_1]; · iexact Hk0_part37_1
    isplitl [Hk0_part37_2]; · iexact Hk0_part37_2
    isplitl [Hk0_part37_3]; · iexact Hk0_part37_3
  isplitl [H9]
  · iexists _; isplitr; swap; · iexact H9
    ipureintro
    first
    | (have _h : cond0_4 i := hc4
       refine (View.read_writes_full _ _ _ _ _).trans (pay6_congr _ _ _ ?_)
       first
       | (have _h : cond0_3 i (word0 c i xt0) (word1 c i xt0) := hc3
          refine (View.readCov_full _ _ _ _ _).trans ?_
          refine pay5_congr ?_ ?_ ?_
          · first | (have _h : cond0_2 i := hc2; exact View.readCov_full _ _ _ _ _) | rfl
          · first
            | (have _h : cond0_0 i := hc0; exact (slot_put i _ _ _ _).trans (congrArg (fun z => slotOf i (VecWindow.put _ (k0_off3 i) S1x128x2048.size z)) (pay2_congr _ _ (perm_load _ _))))
            | (have _h : cond0_1 i := hc1; exact slot_put i _ _ _ _)
            | rfl
          · exact (View.readAt_full _ _ _).trans (hD _))
       | rfl)
    | rfl
  isplitl [H10]
  · iexists _; isplitr; swap; · iexact H10
    ipureintro
    first | (have _h : cond0_0 i := hc0; exact View.read_writes_full _ _ _ _ _) | exact (View.readAt_full _ _ _).symm
  isplitl [H11]
  · iexists _; isplitr; swap; · iexact H11
    ipureintro
    first | (have _h : cond0_0 i := hc0; exact View.read_writes_full _ _ _ _ _) | rfl
  isplitl [H12]
  · iexists _; isplitr; swap; · iexact H12
    ipureintro
    first | (have _h : cond0_0 i := hc0; exact View.read_writes_eq_canon _ _ _ (perm_cover _)) | exact (View.readAt_full _ _ _).symm
  isplitl [H13]
  · iexists _; isplitr; swap; · iexact H13
    ipureintro
    first
    | (have _h : cond0_0 i := hc0; exact (View.read_writes_cons_put _ _ _ _ _ rfl).trans (congrArg (VecWindow.put _ _ _) (pay2_congr _ _ (perm_load _ _))))
    | (have _h : cond0_1 i := hc1; exact View.read_writes_cons_put _ _ _ _ _ rfl)
    | rfl
  isplitl [H14]
  · iexists _; isplitr; swap; · iexact H14
    ipureintro
    first | (have _h : cond0_0 i := hc0; exact View.read_writes_full _ _ _ _ _) | rfl
  isplitl [H15]
  · iexists _; isplitr; swap; · iexact H15
    ipureintro
    first
    | (have _h : cond0_3 i (word0 c i xt0) (word1 c i xt0) := hc3
       refine (View.read_writes_full _ _ _ _ _).trans ?_
       refine pay5_congr ?_ ?_ ?_
       · first | (have _h : cond0_2 i := hc2; exact View.readCov_full _ _ _ _ _) | rfl
       · first
         | (have _h : cond0_0 i := hc0; exact (slot_put i _ _ _ _).trans (congrArg (fun z => slotOf i (VecWindow.put _ (k0_off3 i) S1x128x2048.size z)) (pay2_congr _ _ (perm_load _ _))))
         | (have _h : cond0_1 i := hc1; exact slot_put i _ _ _ _)
         | rfl
       · exact (View.readAt_full _ _ _).trans (hD _))
    | (have _h : cond0_2 i := hc2; exact View.read_writes_full _ _ _ _ _)
    | exact (View.readAt_full _ _ _).symm
  isplitl [H16]
  · iexists _; isplitr; swap; · iexact H16
    ipureintro
    first
    | (have _h : cond0_0 i := hc0; exact (View.read_writes_full _ _ _ _ _).trans (pay3_congr _ (View.readCov_full _ _ _ _ _)))
    | (have _h : cond0_2 i := hc2; exact View.read_writes_full _ _ _ _ _)
    | exact (View.readAt_full _ _ _).symm
  first
  | isplitl [H17]
    · iexists _, _; isplitr; swap; · iexact H17
      ipureintro; rfl
  | isplitl [Hk0_part37_4]
    · iexists _, _; isplitr; swap; · iexact Hk0_part37_4
      ipureintro; rfl
  iexact HT0

end Cert.KernelIdeal.Hand
-- ==== Proof.KernelIdeal.Expand.lean ====
/- The dense bf16 block that the expansion of a packed block leaves in the scratch, as one function of the packed block,
   and the proof that the stores of the body leave it. -/

module

public import proofs.«01_k».proof.Proof.KernelIdeal.Dense
public import Idealize.ShloMosaic.Lib.Pipeline.ReadBack

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of packed values, of packed indices and of scales that the expansion of row block `b` reads. -/
def valsOf (b : ℕ) (hb : b < 8) (x6 : Vec F S1x512x512 .i8) : Vec F S1x64x512 .i8 :=
  View.ld (Val := Elt F) (e' := .i8) x6 (Rect.unit (s := S1x512x512) ![0, 64 * b, 0] S1x64x512.size (by intro a; fin_cases a <;> simp [S1x512x512, S1x64x512, Shape.size] <;> omega))
/-- The packed places of a pair of groups. -/
def idxOf (b : ℕ) (hb : b < 8) (x7 : Vec F S1x256x512 .i8) : Vec F S1x32x512 .i8 :=
  View.ld (Val := Elt F) (e' := .i8) x7 (Rect.unit (s := S1x256x512) ![0, 32 * b, 0] S1x32x512.size (by intro a; fin_cases a <;> simp [S1x256x512, S1x32x512, Shape.size] <;> omega))
/-- A row of scales of a pair of groups. -/
def scaleOf (b : ℕ) (hb : b < 8) (h : ℕ) (hh : h < 2) (x8 : Vec F S1x16x512 .bf16) : Vec F S1x1x512 .bf16 :=
  View.ld (Val := Elt F) (e' := .bf16) x8 (Rect.unit (s := S1x16x512) ![0, 2 * b + h, 0] S1x1x512.size (by intro a; fin_cases a <;> simp [S1x16x512, S1x1x512, Shape.size] <;> omega))

/-- The nibbles at position `p` of the quads that a row block's packed values and indices expand to. -/
def quadOf (p : ℕ) (v : Vec F S1x64x512 .i8) (w : Vec F S1x32x512 .i8) : IVec S64x512 4 :=
  match p with
  | 0 => k0_pay41 (k0_pay28 v) (k0_pay29 v) (k0_pay30 w) (k0_pay31 w) (k0_pay32 v w)
  | 1 => k0_pay42 (k0_pay28 v) (k0_pay29 v) (k0_pay30 w) (k0_pay31 w) (k0_pay32 v w)
  | 2 => k0_pay45 (k0_pay43 (k0_pay29 v) (k0_pay30 w) (k0_pay31 w) (k0_pay32 v w)) (iota .tc S8x8x512 32 [1] iota_S8x8x512_d1_w32) k0_pay44
  | _ => k0_pay46 (k0_pay34 (k0_pay31 w) (k0_pay32 v w)) (k0_pay39 (k0_pay29 v) (k0_pay30 w))

/-- Half `h` of the quads at one position, as bf16 numbers, times their scales. -/
def halfOf (h : ℕ) (q : IVec S64x512 4) (s : Vec F S1x1x512 .bf16) : FVec F S32x512 .bf16 :=
  match h with
  | 0 => k0_pay48 q s
  | _ => k0_pay49 q s

/-- The 32 dense rows of row block `b`, quad position `p` and half `h`. -/
def rowsOf (b : ℕ) (hb : b < 8) (p h : ℕ) (hh : h < 2) (x6 : Vec F S1x512x512 .i8) (x7 : Vec F S1x256x512 .i8) (x8 : Vec F S1x16x512 .bf16) :
    FVec F S32x512 .bf16 :=
  halfOf h (quadOf p (valsOf b hb x6) (idxOf b hb x7)) (scaleOf b hb h hh x8)

/-- The dense block: row `256 b + 64 p + 32 h + r` is row `r` of those of `b`, `p`, `h`. -/
def denseOf (x6 : Vec F S1x512x512 .i8) (x7 : Vec F S1x256x512 .i8) (x8 : Vec F S1x16x512 .bf16) : Vec F S2048x512 .bf16 := fun y =>
  have hy : (y 0).val < 2048 := (y 0).isLt
  rowsOf ((y 0).val / 256) (by omega) ((y 0).val % 256 / 64) ((y 0).val % 64 / 32) (by omega) x6 x7 x8
    (fun | 0 => ⟨(y 0).val % 32, Nat.mod_lt _ (by decide)⟩ | 1 => ⟨(y 1).val, (y 1).isLt⟩)

/-- The rows of `b`, `p`, `h` are where the dense block has them. -/
theorem rows_piece (b p h : ℕ) (hb : b < 8) (hp : p < 4) (hh : h < 2) (x6 : Vec F S1x512x512 .i8) (x7 : Vec F S1x256x512 .i8) (x8 : Vec F S1x16x512 .bf16)
    (inb : ∀ a, (![256 * b + 64 * p + 32 * h, 0] : Fin 2 → ℕ) a + S32x512.size a ≤ S2048x512.size a) (j : S32x512.Idx) :
    rowsOf b hb p h hh x6 x7 x8 j = denseOf x6 x7 x8 ((Rect.unit (s := S2048x512) ![256 * b + 64 * p + 32 * h, 0] S32x512.size inb).emb j) := by
  have e0 : (((Rect.unit (s := S2048x512) ![256 * b + 64 * p + 32 * h, 0] S32x512.size inb).emb j) 0).val = 256 * b + 64 * p + 32 * h + 1 * (j 0).val := rfl
  have e1 : (((Rect.unit (s := S2048x512) ![256 * b + 64 * p + 32 * h, 0] S32x512.size inb).emb j) 1).val = 0 + 1 * (j 1).val := rfl
  have hj : (j 0).val < 32 := (j 0).isLt
  unfold denseOf
  generalize (Rect.unit (s := S2048x512) ![256 * b + 64 * p + 32 * h, 0] S32x512.size inb).emb j = y at e0 e1
  obtain rfl : b = (y 0).val / 256 := by omega
  obtain rfl : p = (y 0).val % 256 / 64 := by omega
  obtain rfl : h = (y 0).val % 64 / 32 := by omega
  refine congrArg (rowsOf _ _ _ _ _ x6 x7 x8) (funext fun a => ?_)
  match a with
  | 0 => exact Fin.ext (by show (j 0).val = (y 0).val % 32; omega)
  | 1 => exact Fin.ext (by show (j 1).val = (y 1).val; omega)

/-- The offsets of a row group stay inside the block. -/
theorem rows_inb (b p h : ℕ) (hb : b < 8) (hp : p < 4) (hh : h < 2) :
    ∀ a, (![256 * b + 64 * p + 32 * h, 0] : Fin 2 → ℕ) a + S32x512.size a ≤ S2048x512.size a := by
  intro a; fin_cases a
  · show 256 * b + 64 * p + 32 * h + 32 ≤ 2048; omega
  · show 0 + 512 ≤ 512; omega

/-- The eight stores of one row block, last first, and those of all the row blocks. -/
def blockL (b : ℕ) (hb : b < 8) (x6 : Vec F S1x512x512 .i8) (x7 : Vec F S1x256x512 .i8) (x8 : Vec F S1x16x512 .bf16) : List (View.Piece (Elt F) S2048x512 .bf16) :=
  [⟨Rect.unit (s := S2048x512) ![256 * b + 64 * 3 + 32 * 1, 0] S32x512.size (rows_inb b 3 1 hb (by decide) (by decide)), rowsOf b hb 3 1 (by decide) x6 x7 x8⟩, ⟨Rect.unit (s := S2048x512) ![256 * b + 64 * 3 + 32 * 0, 0] S32x512.size (rows_inb b 3 0 hb (by decide) (by decide)), rowsOf b hb 3 0 (by decide) x6 x7 x8⟩, ⟨Rect.unit (s := S2048x512) ![256 * b + 64 * 2 + 32 * 1, 0] S32x512.size (rows_inb b 2 1 hb (by decide) (by decide)), rowsOf b hb 2 1 (by decide) x6 x7 x8⟩, ⟨Rect.unit (s := S2048x512) ![256 * b + 64 * 2 + 32 * 0, 0] S32x512.size (rows_inb b 2 0 hb (by decide) (by decide)), rowsOf b hb 2 0 (by decide) x6 x7 x8⟩, ⟨Rect.unit (s := S2048x512) ![256 * b + 64 * 1 + 32 * 1, 0] S32x512.size (rows_inb b 1 1 hb (by decide) (by decide)), rowsOf b hb 1 1 (by decide) x6 x7 x8⟩, ⟨Rect.unit (s := S2048x512) ![256 * b + 64 * 1 + 32 * 0, 0] S32x512.size (rows_inb b 1 0 hb (by decide) (by decide)), rowsOf b hb 1 0 (by decide) x6 x7 x8⟩, ⟨Rect.unit (s := S2048x512) ![256 * b + 64 * 0 + 32 * 1, 0] S32x512.size (rows_inb b 0 1 hb (by decide) (by decide)), rowsOf b hb 0 1 (by decide) x6 x7 x8⟩, ⟨Rect.unit (s := S2048x512) ![256 * b + 64 * 0 + 32 * 0, 0] S32x512.size (rows_inb b 0 0 hb (by decide) (by decide)), rowsOf b hb 0 0 (by decide) x6 x7 x8⟩]
/-- The expanded delta as the list of its stored pieces. -/
def denseL (x6 : Vec F S1x512x512 .i8) (x7 : Vec F S1x256x512 .i8) (x8 : Vec F S1x16x512 .bf16) : List (View.Piece (Elt F) S2048x512 .bf16) :=
  blockL 7 (by decide) x6 x7 x8 ++ (blockL 6 (by decide) x6 x7 x8 ++ (blockL 5 (by decide) x6 x7 x8 ++ (blockL 4 (by decide) x6 x7 x8 ++ (blockL 3 (by decide) x6 x7 x8 ++ (blockL 2 (by decide) x6 x7 x8 ++ (blockL 1 (by decide) x6 x7 x8 ++ (blockL 0 (by decide) x6 x7 x8)))))))

/-- Pieces of two lists make pieces of the joined list. -/
theorem piecesOf_append {G : S2048x512.Idx → Elt F .bf16} : ∀ {L L' : List (View.Piece (Elt F) S2048x512 .bf16)},
    View.PiecesOf G L → View.PiecesOf G L' → View.PiecesOf G (L ++ L')
  | [], _, _, h => h
  | _ :: _, _, h, h' => ⟨h.1, piecesOf_append h.2 h'⟩

/-- Each store is the dense block's. -/
theorem block_pieces (b : ℕ) (hb : b < 8) (x6 : Vec F S1x512x512 .i8) (x7 : Vec F S1x256x512 .i8) (x8 : Vec F S1x16x512 .bf16) : View.PiecesOf (denseOf x6 x7 x8) (blockL b hb x6 x7 x8) :=
  ⟨rows_piece b 3 1 hb (by decide) (by decide) x6 x7 x8 (rows_inb b 3 1 hb (by decide) (by decide)), rows_piece b 3 0 hb (by decide) (by decide) x6 x7 x8 (rows_inb b 3 0 hb (by decide) (by decide)), rows_piece b 2 1 hb (by decide) (by decide) x6 x7 x8 (rows_inb b 2 1 hb (by decide) (by decide)), rows_piece b 2 0 hb (by decide) (by decide) x6 x7 x8 (rows_inb b 2 0 hb (by decide) (by decide)), rows_piece b 1 1 hb (by decide) (by decide) x6 x7 x8 (rows_inb b 1 1 hb (by decide) (by decide)), rows_piece b 1 0 hb (by decide) (by decide) x6 x7 x8 (rows_inb b 1 0 hb (by decide) (by decide)), rows_piece b 0 1 hb (by decide) (by decide) x6 x7 x8 (rows_inb b 0 1 hb (by decide) (by decide)), rows_piece b 0 0 hb (by decide) (by decide) x6 x7 x8 (rows_inb b 0 0 hb (by decide) (by decide)), trivial⟩
/-- Every stored piece of the expanded delta is the list's. -/
theorem dense_pieces (x6 : Vec F S1x512x512 .i8) (x7 : Vec F S1x256x512 .i8) (x8 : Vec F S1x16x512 .bf16) : View.PiecesOf (denseOf x6 x7 x8) (denseL x6 x7 x8) :=
  piecesOf_append (block_pieces _ _ _ _ _) (piecesOf_append (block_pieces _ _ _ _ _) (piecesOf_append (block_pieces _ _ _ _ _) (piecesOf_append (block_pieces _ _ _ _ _) (piecesOf_append (block_pieces _ _ _ _ _) (piecesOf_append (block_pieces _ _ _ _ _) (piecesOf_append (block_pieces _ _ _ _ _) (block_pieces _ _ _ _ _)))))))

/-- The stores cover the dense block. -/
theorem dense_cover (x6 : Vec F S1x512x512 .i8) (x7 : Vec F S1x256x512 .i8) (x8 : Vec F S1x16x512 .bf16) (y : S2048x512.Idx) : ∃ p ∈ denseL x6 x7 x8, y ∈ p.1.set :=
  View.cover_of_tiledL (denseL x6 x7 x8) S32x512.size (by sl_kernel_rfl) y

set_option maxRecDepth 200000 in
set_option maxHeartbeats 1000000 in
/-- What the expansion stores is that list. -/
theorem dense_list (c : Dev nD) (i : grid0.Coords) (arg2 : Memref sig .tc .smem S8 .i32) (harg2 : arg2.IsWhole) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x6 : Vec F S1x512x512 .i8) (x7 : Vec F S1x256x512 .i8) (x8 : Vec F S1x16x512 .bf16) :
    ((⟨Rect.unit (s := S2048x512) ![2016, 0] S32x512.size inb_S2048x512_S32x512_2016_0, (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).1⟩ : View.Piece (Elt F) S2048x512 .bf16) :: (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).2.1)
      = denseL (arg6.view.read (Elt F) (harg6.unread x6)) (arg7.view.read (Elt F) (harg7.unread x7)) (arg8.view.read (Elt F) (harg8.unread x8)) := rfl

/-- The list of stores leaves the dense block, whatever the buffer held. -/
theorem read_denseL {κ : Kind} {sp : Space} (v : View sig κ sp S2048x512 .bf16) (x6 : Vec F S1x512x512 .i8) (x7 : Vec F S1x256x512 .i8) (x8 : Vec F S1x16x512 .bf16) (f : v.ty.Contents (Elt F)) (L : List (View.Piece (Elt F) S2048x512 .bf16))
    (h : L = denseL x6 x7 x8) : v.read (Elt F) (v.writes (Elt F) f L) = denseOf x6 x7 x8 := by
  subst h
  funext y
  exact View.read_writes_apply_of_pieces _ f _ _ (dense_pieces x6 x7 x8).mem y (dense_cover x6 x7 x8 y)

/-- The packed block read back from whole staging buffers is the packed block. -/
theorem denseL_unread (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (x6 : Vec F S1x512x512 .i8) (x7 : Vec F S1x256x512 .i8) (x8 : Vec F S1x16x512 .bf16) :
    denseL (arg6.view.read (Elt F) (harg6.unread x6)) (arg7.view.read (Elt F) (harg7.unread x7)) (arg8.view.read (Elt F) (harg8.unread x8)) = denseL x6 x7 x8 := by
  rw [harg6.read_unread, harg7.read_unread, harg8.read_unread]

/-- The expansion runs, and with the rows handed on stored last its stores are the list above. -/
theorem dense_run (c : Dev nD) (i : grid0.Coords) (arg2 : Memref sig .tc .smem S8 .i32) (harg2 : arg2.IsWhole) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x6 : Vec F S1x512x512 .i8) (x7 : Vec F S1x256x512 .i8) (x8 : Vec F S1x16x512 .bf16) :
    ∃ (R : FVec F S32x512 .bf16) (L : List (View.Piece (Elt F) S2048x512 .bf16)),
      (∀ (E : Set ℕ) (f17 : Buf (Elt F) (arg17.view.loc (c : Thread nD τ))),
        (iprop((arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} f17)) : sProp 𝕄)
          ⊢ wp frame (wpE (defs₀ (F := F)) Variants.none c none) E (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun r => iprop(⌜r = R⌝ ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg17.view.loc (c : Thread nD τ) ↦[arg17.view.set]{fullShare} arg17.view.writes (Elt F) f17 L))))
      ∧ ((⟨Rect.unit (s := S2048x512) ![2016, 0] S32x512.size inb_S2048x512_S32x512_2016_0, R⟩ : View.Piece (Elt F) S2048x512 .bf16) :: L) = denseL x6 x7 x8 :=
  ⟨(denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).1, (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).2.1, (denseRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).2.2,
    (dense_list c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8).trans (denseL_unread arg6 harg6 arg7 harg7 arg8 harg8 x6 x7 x8)⟩

end Cert.KernelIdeal.Hand
-- ==== Proof.KernelIdeal.Step.lean ====
/- One run of the body on whole buffers, by what each buffer holds before and after. -/

module

public import proofs.«01_k».proof.Proof.KernelIdeal.Body
public import proofs.«01_k».proof.Proof.KernelIdeal.Expand

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer owned at contents is its raw points-to at those contents. -/
theorem owns_raw (c : Dev nD) {sp : Space} {s : Shape} {e : EltTy} (m : Memref sig .tc sp s e) (h : m.IsWhole) (X : s.Idx → Elt F e) :
    (owns (c : Thread nD τ) m fullShare X : sProp 𝕄) ⊢ iprop(m.view.loc (c : Thread nD τ) ↦[m.view.set]{fullShare} h.unread X) := by
  unfold owns
  iintro ⟨%f, %hf, H⟩
  obtain rfl := h.eq_unread hf
  iexact H

/-- And back. -/
theorem raw_owns (c : Dev nD) {sp : Space} {s : Shape} {e : EltTy} (m : Memref sig .tc sp s e) (h : m.IsWhole) (X : s.Idx → Elt F e) :
    (iprop(m.view.loc (c : Thread nD τ) ↦[m.view.set]{fullShare} h.unread X) : sProp 𝕄) ⊢ owns (c : Thread nD τ) m fullShare X := by
  unfold owns
  iintro H
  iexists _
  isplitr
  swap; · iexact H
  ipureintro; exact h.read_unread X

/-- A load of a whole buffer at contents reads the contents. -/
theorem load_full {sp : Space} {s : Shape} {e : EltTy} (m : Memref sig .tc sp s e) (h : m.IsWhole) (X : s.Idx → Elt F e)
    {off : Fin s.rank → ℕ} (inb : ∀ a, off a + s.size a ≤ s.size a) :
    m.view.readAt (Elt F) (Rect.unit off s.size inb).toLoadRect (h.unread X) = X :=
  (View.readAt_full _ _ _).trans (h.read_unread X)

set_option maxHeartbeats 4000000 in
/-- The body at grid point `i`: from whole buffers at any contents to the same buffers at the contents it leaves. -/
theorem bodyStep (c : Dev nD) (i : grid0.Coords) (arg3 : Memref sig .tc .vmem S128x2048 .bf16) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S1x512x512 .i8) (harg6 : arg6.IsWhole) (arg7 : Memref sig .tc .vmem S1x256x512 .i8) (harg7 : arg7.IsWhole) (arg8 : Memref sig .tc .vmem S1x16x512 .bf16) (harg8 : arg8.IsWhole) (arg9 : Memref sig .tc .vmem S128x512 .bf16) (harg9 : arg9.IsWhole) (arg10 : Memref sig .tc .vmem S128x2048 .fp8e4m3) (harg10 : arg10.IsWhole) (arg11 : Memref sig .tc .vmem S1x128 .f32) (harg11 : arg11.IsWhole) (arg12 : Memref sig .tc .vmem S128x2048 .bf16) (harg12 : arg12.IsWhole) (arg13 : Memref sig .tc .vmem S7x128x2048 .bf16) (harg13 : arg13.IsWhole) (arg14 : Memref sig .tc .vmem S128x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S2048x512 .bf16) (harg17 : arg17.IsWhole)
    (x3 : Vec F S128x2048 .bf16) (x4 : Vec F S2048x512 .fp8e4m3) (x5 : Vec F S1x512 .f32) (x6 : Vec F S1x512x512 .i8) (x7 : Vec F S1x256x512 .i8) (x8 : Vec F S1x16x512 .bf16) (x9 : Vec F S128x512 .bf16) (x10 : Vec F S128x2048 .fp8e4m3) (x11 : Vec F S1x128 .f32) (x12 : Vec F S128x2048 .bf16) (x13 : Vec F S7x128x2048 .bf16) (x14 : Vec F S128x128 .f32) (x15 : Vec F S128x512 .f32) (x16 : Vec F S128x512 .f32) (xt0 : TbBuf0 (F := F) c tbM0_0) (E : Set ℕ) (K : PUnit → sProp 𝕄)
    (h01 : cond0_0 i → cond0_1 i ∧ cond0_2 i) (h24 : cond0_2 i → ¬ cond0_4 i) (h012 : cond0_1 i → cond0_2 i → cond0_0 i) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ tbPt0 c tbM0_0 xt0
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (yAt i (scAt i x3 x14) (baseAt i (codesAt i x3 x10) x4 x16) x5 (accAt i (word0 c i xt0) (word1 c i xt0) (startAt i x15) (slotsAt i (word0 c i xt0) (word1 c i xt0) (permAt i x3 x12) x13) (denseOf x6 x7 x8)) x9) ∗ owns (c : Thread nD τ) arg10 fullShare (codesAt i x3 x10) ∗ owns (c : Thread nD τ) arg11 fullShare (scalesAt i x3 x11) ∗ owns (c : Thread nD τ) arg12 fullShare (permAt i x3 x12) ∗ owns (c : Thread nD τ) arg13 fullShare (slotsAt i (word0 c i xt0) (word1 c i xt0) (permAt i x3 x12) x13) ∗ owns (c : Thread nD τ) arg14 fullShare (scAt i x3 x14) ∗ owns (c : Thread nD τ) arg15 fullShare (accAt i (word0 c i xt0) (word1 c i xt0) (startAt i x15) (slotsAt i (word0 c i xt0) (word1 c i xt0) (permAt i x3 x12) x13) (denseOf x6 x7 x8)) ∗ owns (c : Thread nD τ) arg16 fullShare (baseAt i (codesAt i x3 x10) x4 x16) ∗ (∃ d, owns (c : Thread nD τ) arg17 fullShare d) ∗ tbPt0 c tbM0_0 xt0) -∗ K ⟨⟩)) : sProp 𝕄)
      ⊢ wp frame (wpE (defs₀ (F := F)) Variants.none c none) E (cc0_delta_projection i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨RR, LL, hcut, hL⟩ := dense_run c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 x6 x7 x8
  iintro ⟨H3, H4, H5, H6, H7, H8, H9, H10, H11, H12, H13, H14, H15, H16, ⟨%d17, H17⟩, HT0, HK⟩
  ihave H3 := (owns_raw c arg3 harg3 _) $$ H3
  ihave H4 := (owns_raw c arg4 harg4 _) $$ H4
  ihave H5 := (owns_raw c arg5 harg5 _) $$ H5
  ihave H6 := (owns_raw c arg6 harg6 _) $$ H6
  ihave H7 := (owns_raw c arg7 harg7 _) $$ H7
  ihave H8 := (owns_raw c arg8 harg8 _) $$ H8
  ihave H9 := (owns_raw c arg9 harg9 _) $$ H9
  ihave H10 := (owns_raw c arg10 harg10 _) $$ H10
  ihave H11 := (owns_raw c arg11 harg11 _) $$ H11
  ihave H12 := (owns_raw c arg12 harg12 _) $$ H12
  ihave H13 := (owns_raw c arg13 harg13 _) $$ H13
  ihave H14 := (owns_raw c arg14 harg14 _) $$ H14
  ihave H15 := (owns_raw c arg15 harg15 _) $$ H15
  ihave H16 := (owns_raw c arg16 harg16 _) $$ H16
  ihave H17 := (owns_raw c arg17 harg17 _) $$ H17
  iapply (bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread d17) xt0 E K RR LL (fun f17 => hcut E f17)
    (yAt i (scAt i x3 x14) (baseAt i (codesAt i x3 x10) x4 x16) x5 (accAt i (word0 c i xt0) (word1 c i xt0) (startAt i x15) (slotsAt i (word0 c i xt0) (word1 c i xt0) (permAt i x3 x12) x13) (denseOf x6 x7 x8)) x9) (codesAt i x3 x10) (scalesAt i x3 x11) (permAt i x3 x12) (slotsAt i (word0 c i xt0) (word1 c i xt0) (permAt i x3 x12) x13) (scAt i x3 x14) (accAt i (word0 c i xt0) (word1 c i xt0) (startAt i x15) (slotsAt i (word0 c i xt0) (word1 c i xt0) (permAt i x3 x12) x13) (denseOf x6 x7 x8)) (baseAt i (codesAt i x3 x10) x4 x16) (startAt i x15) (denseOf x6 x7 x8)
    (fun f => read_denseL _ x6 x7 x8 f _ hL) h01 h24 h012
    (congrArg₂ (codesAt i) (load_full _ harg3 x3 _) (load_full _ harg10 x10 _))
    (congrArg₂ (scalesAt i) (load_full _ harg3 x3 _) (harg11.read_unread x11))
    (congrArg₂ (permAt i) (load_full _ harg3 x3 _) (load_full _ harg12 x12 _))
    (congrArg₂ (scAt i) (load_full _ harg3 x3 _) (harg14.read_unread x14))
    (congrArg (slotsAt i (word0 c i xt0) (word1 c i xt0) (permAt i x3 x12)) (harg13.read_unread x13))
    (congrArg₂ (baseAt i (codesAt i x3 x10)) (load_full _ harg4 x4 _) (load_full _ harg16 x16 _))
    (congrArg (startAt i) (load_full _ harg15 x15 _)) rfl
    (congr (congrArg (fun z => yAt i (scAt i x3 x14) (baseAt i (codesAt i x3 x10) x4 x16) z (accAt i (word0 c i xt0) (word1 c i xt0) (startAt i x15) (slotsAt i (word0 c i xt0) (word1 c i xt0) (permAt i x3 x12) x13) (denseOf x6 x7 x8))) (load_full _ harg5 x5 _)) (harg9.read_unread x9)))
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HT0]; · iexact HT0
  iintro ⟨H3, H4, H5, H6, H7, H8, H9, H10, H11, H12, H13, H14, H15, H16, H17, HT0⟩
  ihave H3 := (raw_owns c arg3 harg3 _) $$ H3
  ihave H4 := (raw_owns c arg4 harg4 _) $$ H4
  ihave H5 := (raw_owns c arg5 harg5 _) $$ H5
  ihave H6 := (raw_owns c arg6 harg6 _) $$ H6
  ihave H7 := (raw_owns c arg7 harg7 _) $$ H7
  ihave H8 := (raw_owns c arg8 harg8 _) $$ H8
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HT0

end Cert.KernelIdeal.Hand
-- ==== Proof.KernelIdeal.Ok.lean ====
/- The blocks of packed weights that the tenant offsets choose lie inside their arrays, whatever the offsets are. -/

module

public import proofs.«01_k».proof.Proof.KernelIdeal.Kit

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tenant whose block a point fetches: its own, or the one before. -/
theorem tenant_lt (n : ℕ) (hn : n < 7) (b : BitVec 1) :
    (Scalar.select b (BitVec.ofNat 32 n) (Scalar.maxsi (Scalar.subi (BitVec.ofNat 32 n) 1#32) 0#32)).toNat < 7 := by
  have h : ∀ n : Fin 7, ∀ b : BitVec 1, (Scalar.select b (BitVec.ofNat 32 n.val) (Scalar.maxsi (Scalar.subi (BitVec.ofNat 32 n.val) 1#32) 0#32)).toNat < 7 := by decide
  exact h ⟨n, hn⟩ b

/-- There are 11 column blocks. -/
theorem coord0_lt (i : grid0.Coords) : (i 0).val < 11 := (i 0).isLt
/-- There are 7 tenants. -/
theorem coord1_lt (i : grid0.Coords) : (i 1).val < 7 := (i 1).isLt

/-- The pipeline's side condition of the table's contents holds of any contents. -/
theorem ok (pf : pre0.Contents (Elt F)) : ok0 pf := by
  refine ⟨fun i => ⟨fun a => ?_, .inr (.inr ⟨by decide, rfl, rfl, rfl⟩)⟩, fun i => ⟨fun a => ?_, .inr (.inr ⟨by decide, rfl, rfl, rfl⟩)⟩,
    fun i => ⟨fun a => ?_, .inr (.inr ⟨by decide, rfl, rfl, rfl⟩)⟩⟩
  all_goals
    have h0 := coord0_lt i
    have ht := tenant_lt (i 1).val (coord1_lt i) (Scalar.cmpi .sgt (pf.at 0 (Rect.unit (s := S8) (k0_off1 i) S1.size (k0_off1_inb i)) numel1_S1)
      (pf.at 0 (Rect.unit (s := S8) (k0_off2 i) S1.size (k0_off2_inb i)) numel1_S1))
    have e0 : (BitVec.ofNat 32 (i 0).val).toNat = (i 0).val := by simp; omega
    match a with
    | 0 => show (_ + 1) * 1 ≤ 7; rw [Nat.mul_one]; exact ht
    | 1 => show (0 + 1) * _ ≤ _; decide
    | 2 => show ((BitVec.ofNat 32 (i 0).val).toNat + 1) * 512 ≤ 5632; rw [e0]; omega

end Cert.KernelIdeal.Hand
-- ==== Proof.KernelIdeal.Frame.lean ====
/- The frame: with nothing said of the outputs and the scratch, the region runs and leaves every input as it was. -/

module

public import proofs.«01_k».proof.Proof.KernelIdeal.Step
public import proofs.«01_k».proof.Proof.KernelIdeal.Ok
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def fdats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ t := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem fA_eq (hO : Ok m) (c : Dev nD) (w : Fin (cfgM m hO).W) : (fdats m hO 0 c).A w = V m c (Pipeline.arrRef spec0 w) := by
  dsimp only [fdats]

/-- What the body leaves, window by window (the proof data's `match` reduced by `dsimp`). -/
theorem fafter0_0 (hO : Ok m) (c : Dev nD) (t : Fin (cfgM m hO).N) : (fdats m hO 0 c).after 0 t = iblk m hO c 0 t := by dsimp only [fdats]; try rfl
/-- What a point leaves in window 1. -/
theorem fafter0_1 (hO : Ok m) (c : Dev nD) (t : Fin (cfgM m hO).N) : (fdats m hO 0 c).after 1 t = iblk m hO c 1 t := by dsimp only [fdats]; try rfl
/-- What a point leaves in window 2. -/
theorem fafter0_2 (hO : Ok m) (c : Dev nD) (t : Fin (cfgM m hO).N) : (fdats m hO 0 c).after 2 t = iblk m hO c 2 t := by dsimp only [fdats]; try rfl
/-- What a point leaves in window 3. -/
theorem fafter0_3 (hO : Ok m) (c : Dev nD) (t : Fin (cfgM m hO).N) : (fdats m hO 0 c).after 3 t = iblk m hO c 3 t := by dsimp only [fdats]; try rfl
/-- What a point leaves in window 4. -/
theorem fafter0_4 (hO : Ok m) (c : Dev nD) (t : Fin (cfgM m hO).N) : (fdats m hO 0 c).after 4 t = iblk m hO c 4 t := by dsimp only [fdats]; try rfl
/-- What a point leaves in window 5. -/
theorem fafter0_5 (hO : Ok m) (c : Dev nD) (t : Fin (cfgM m hO).N) : (fdats m hO 0 c).after 5 t = iblk m hO c 5 t := by dsimp only [fdats]; try rfl

/-- Each input's current staging buffer holds its block at every point, fetched there or not (`beforeK_W_of`). -/
theorem fbefore0_0 (hO : Ok m) (c : Dev nD) (t : Fin (cfgM m hO).N) (d) : (fdats m hO 0 c).before 0 t d = iblk m hO c 0 t :=
  before0_0_of m hO (fdats m hO 0 c) (fA_eq m hO c 0) (fafter0_0 m hO c) t d
/-- What a point finds in window 1. -/
theorem fbefore0_1 (hO : Ok m) (c : Dev nD) (t : Fin (cfgM m hO).N) (d) : (fdats m hO 0 c).before 1 t d = iblk m hO c 1 t :=
  before0_1_of m hO (fdats m hO 0 c) (fA_eq m hO c 1) (fafter0_1 m hO c) t d
/-- What a point finds in window 2. -/
theorem fbefore0_2 (hO : Ok m) (c : Dev nD) (t : Fin (cfgM m hO).N) (d) : (fdats m hO 0 c).before 2 t d = iblk m hO c 2 t :=
  before0_2_of m hO (fdats m hO 0 c) (fA_eq m hO c 2) (fafter0_2 m hO c) t d
/-- What a point finds in window 3. -/
theorem fbefore0_3 (hO : Ok m) (c : Dev nD) (t : Fin (cfgM m hO).N) (d) : (fdats m hO 0 c).before 3 t d = iblk m hO c 3 t :=
  before0_3_of m hO (fdats m hO 0 c) (fA_eq m hO c 3) (fafter0_3 m hO c) t d
/-- What a point finds in window 4. -/
theorem fbefore0_4 (hO : Ok m) (c : Dev nD) (t : Fin (cfgM m hO).N) (d) : (fdats m hO 0 c).before 4 t d = iblk m hO c 4 t :=
  before0_4_of m hO (fdats m hO 0 c) (fA_eq m hO c 4) (fafter0_4 m hO c) t d
/-- What a point finds in window 5. -/
theorem fbefore0_5 (hO : Ok m) (c : Dev nD) (t : Fin (cfgM m hO).N) (d) : (fdats m hO 0 c).before 5 t d = iblk m hO c 5 t :=
  before0_5_of m hO (fdats m hO 0 c) (fA_eq m hO c 5) (fafter0_5 m hO c) t d

/-! ## The body obligation, at a generic point -/

/-- What the body is called with at point `t` (Lib/Pipeline.lean `BodyObligation`'s precondition, the windows one by one), -/
def fbodyPre (hO : Ok m) (c : Dev nD) (t : Fin (cfgM m hO).N) : sProp 𝕄 :=
  iprop((fdats m hO 0 c).Φ t.castSucc ∗ (fdats m hO 0 c).owesAt () t.castSucc
    ∗ (∃ d, owns (c : Thread nD τ) (ms0_0 m hO t) fullShare ((fdats m hO 0 c).before 0 t d))
    ∗ (∃ d, owns (c : Thread nD τ) (ms0_1 m hO t) fullShare ((fdats m hO 0 c).before 1 t d))
    ∗ (∃ d, owns (c : Thread nD τ) (ms0_2 m hO t) fullShare ((fdats m hO 0 c).before 2 t d))
    ∗ (∃ d, owns (c : Thread nD τ) (ms0_3 m hO t) fullShare ((fdats m hO 0 c).before 3 t d))
    ∗ (∃ d, owns (c : Thread nD τ) (ms0_4 m hO t) fullShare ((fdats m hO 0 c).before 4 t d))
    ∗ (∃ d, owns (c : Thread nD τ) (ms0_5 m hO t) fullShare ((fdats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def fbodyPost (hO : Ok m) (c : Dev nD) (t : Fin (cfgM m hO).N) : sProp 𝕄 :=
  iprop((fdats m hO 0 c).Φ t.succ ∗ (fdats m hO 0 c).owesAt () t.succ
    ∗ (fdats m hO 0 c).leavesExact 0 t
    ∗ (fdats m hO 0 c).leavesExact 1 t
    ∗ (fdats m hO 0 c).leavesExact 2 t
    ∗ (fdats m hO 0 c).leavesExact 3 t
    ∗ (fdats m hO 0 c).leavesExact 4 t
    ∗ (fdats m hO 0 c).leavesExact 5 t
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

set_option maxHeartbeats 4000000 in
/-- The body at any point: the inputs' buffers hold their blocks, everything else anything, before and after. -/
theorem fsound_body (hO : Ok m) (c : Dev nD) (t : Fin (cfgM m hO).N) :
    fbodyPre m hO c t ⊢ wp frame (wpE (defs₀ (F := F)) Variants.none c none) Set.univ (bodyAt0 (adm m hO) t) (fun _ => fbodyPost m hO c t) := by
  unfold fbodyPre fbodyPost bodyAt0
  simp only [fbefore0_0, fbefore0_1, fbefore0_2, fbefore0_3, fbefore0_4, fbefore0_5]
  rw [show (fdats m hO 0 c).owesAt () t.succ = (fdats m hO 0 c).owesAt () t.castSucc from rfl]
  rw [show (fdats m hO 0 c).Φ t.succ = iprop(Pipeline.ΦA spec0 c ∗ Pipeline.ΦT pre0 (tbl m) c) from rfl, show (fdats m hO 0 c).Φ t.castSucc = iprop(Pipeline.ΦA spec0 c ∗ Pipeline.ΦT pre0 (tbl m) c) from rfl, PhiT0_eq, PhiA0_eq]
  have hN : t.val < 77 := lt_of_lt_of_eq t.isLt (show (cfgM m hO).N = 77 from N_0)
  rw [show (fdats m hO 0 c).leavesExact 0 t = owns (c : Thread nD τ) (ms0_0 m hO t) fullShare ((fdats m hO 0 c).after 0 t) from by
    unfold Dat.leavesExact; rw [liveAt0_0 m hO t]; try rfl, fafter0_0]
  rw [show (fdats m hO 0 c).leavesExact 1 t = owns (c : Thread nD τ) (ms0_1 m hO t) fullShare ((fdats m hO 0 c).after 1 t) from by
    unfold Dat.leavesExact; rw [liveAt0_1 m hO t]; try rfl, fafter0_1]
  rw [show (fdats m hO 0 c).leavesExact 2 t = owns (c : Thread nD τ) (ms0_2 m hO t) fullShare ((fdats m hO 0 c).after 2 t) from by
    unfold Dat.leavesExact; rw [liveAt0_2 m hO t]; try rfl, fafter0_2]
  rw [show (fdats m hO 0 c).leavesExact 3 t = owns (c : Thread nD τ) (ms0_3 m hO t) fullShare ((fdats m hO 0 c).after 3 t) from by
    unfold Dat.leavesExact; rw [liveAt0_3 m hO t]; try rfl, fafter0_3]
  rw [show (fdats m hO 0 c).leavesExact 4 t = owns (c : Thread nD τ) (ms0_4 m hO t) fullShare ((fdats m hO 0 c).after 4 t) from by
    unfold Dat.leavesExact; rw [liveAt0_4 m hO t]; try rfl, fafter0_4]
  rw [show (fdats m hO 0 c).leavesExact 5 t = owns (c : Thread nD τ) (ms0_5 m hO t) fullShare ((fdats m hO 0 c).after 5 t) from by
    unfold Dat.leavesExact; rw [liveAt0_5 m hO t]; try rfl, fafter0_5]
  iintro ⟨⟨⟨⟨⟨%e0, HS0⟩, ⟨%e1, HS1⟩, ⟨%e2, HS2⟩, ⟨%e3, HS3⟩, ⟨%e4, HS4⟩, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyStep c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m hO c 0 t) (iblk m hO c 1 t) (iblk m hO c 2 t) (iblk m hO c 3 t) (iblk m hO c 4 t) (iblk m hO c 5 t) d6 d7 d8 e0 e1 e2 e3 e4 (tbl m 0) Set.univ _
    (fun h => ⟨(hcond0_1 t).mpr (by have := (hcond0_0 t).mp h; omega), (hcond0_2 t).mpr (by have := (hcond0_0 t).mp h; omega)⟩)
    (fun h h' => by have := (hcond0_2 t).mp h; have := (hcond0_4 t).mp h'; omega)
    (fun h h' => (hcond0_0 t).mpr (by have := (hcond0_1 t).mp h; have := (hcond0_2 t).mp h'; omega)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]; · iexists _; iexact HS0
        isplitl [HS1]; · iexists _; iexact HS1
        isplitl [HS2]; · iexists _; iexact HS2
        isplitl [HS3]; · iexists _; iexact HS3
        isplitl [HS4]; · iexists _; iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem fbody_obligation (hO : Ok m) (c : Dev nD) : BodyObligation (fdats (F := F) m hO 0 c) (defs₀ (F := F)) Variants.none () Set.univ forgets0 := fun t => by
  rw [bigSep_W0, bigSep_W0, defs₀_row m hO]
  exact triple_restated (fsound_body m hO c t) rfl .rfl fun _ => .rfl

/-- What the launch hands the region is the invariant, and the invariant gives it back. -/
theorem fhin (hO : Ok m) (c : Dev nD) : iprop(Pipeline.ΦA spec0 c ∗ Pipeline.ΦT pre0 (tbl m) c) ⊢ (fdats m hO 0 c).Φ 0 := by
  rw [show (fdats m hO 0 c).Φ 0 = iprop(Pipeline.ΦA spec0 c ∗ Pipeline.ΦT pre0 (tbl m) c) from rfl]
/-- After the last point the frame's invariant gives back the buffers. -/
theorem fhout (hO : Ok m) (c : Dev nD) : (fdats m hO 0 c).Φ (Fin.last (cfgM m hO).N) ⊢ Pipeline.ΦA spec0 c := by
  rw [show (fdats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (fdats m hO 0 c).toRForget forgets0) (V m)) r ∧ r.2.sem = fun _ => 0) :=
  Pipeline.θ_run_frameP_track_forget (Q' := _) pcfgs (fun _ => adm m hO) (fdats m hO) (0 : Fin 1) launch0 defs₀ Variants.none forgets0 m ρ main
    (hbody := fun c => (fbody_obligation m hO c).loose) (hshare := fun c => (fdats m hO 0 c).share_full fun _ => rfl)
    (howed := fun _ _ => rfl) (V := V m) (hmain := hmain m Variants.none) (hA := fA_eq m hO) (hpf := V_pre m) (hin := fhin m hO) (hout := fhout m hO)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (fdats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (fdats m hO 0 c).toRForget forgets0) (fA_eq m hO) (run_main m ρ hO)

/-- The frame: the kernel runs to its end from every memory and leaves its arguments as they were. -/
theorem frame_claim (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Hand
-- ==== Proof.KernelIdeal.State.lean ====
/- What the carried scratch holds between the points of the grid, in closed form. -/

module

public import proofs.«01_k».proof.Proof.KernelIdeal.Step

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n`, as a point of the grid. -/
def pt (hO : Ok m) (n : ℕ) : Fin (cfgM m hO).N := ⟨n % 77, lt_of_lt_of_eq (Nat.mod_lt _ (by decide)) (show 77 = (cfgM m hO).N from N_0.symm)⟩

/-- There are 77 grid points. -/
theorem lt77 (hO : Ok m) (t : Fin (cfgM m hO).N) : t.val < 77 := lt_of_lt_of_eq t.isLt (show (cfgM m hO).N = 77 from N_0)

/-- The point of a point's number is the point. -/
theorem pt_val (hO : Ok m) (t : Fin (cfgM m hO).N) : pt m hO t.val = t := Fin.ext (Nat.mod_eq_of_lt (lt77 m hO t))

/-- The codes, scales, permuted codes and scale column of the rows. -/
def CODES (hO : Ok m) (c : Dev nD) : Vec F S128x2048 .fp8e4m3 := codesOf (iblk m hO c 0 (pt m hO 0))
/-- The scales. -/
def SCALES (hO : Ok m) (c : Dev nD) : Vec F S1x128 .f32 := scalesOf (iblk m hO c 0 (pt m hO 0))
/-- The permuted codes. -/
def XP (hO : Ok m) (c : Dev nD) : Vec F S128x2048 .bf16 := permOf (iblk m hO c 0 (pt m hO 0))
/-- The scales as a tile. -/
def SC (hO : Ok m) (c : Dev nD) : Vec F S128x128 .f32 := scOf (iblk m hO c 0 (pt m hO 0))

/-- The two offset words point `n` reads. -/
def wA (hO : Ok m) (c : Dev nD) (n : ℕ) : Elt F .i32 := word0 c (grid0.coords (pt m hO n)) (tbl m 0)
/-- The second offset of a point. -/
def wB (hO : Ok m) (c : Dev nD) (n : ℕ) : Elt F .i32 := word1 c (grid0.coords (pt m hO n)) (tbl m 0)

/-- The codes masked to the rows of the tenant of point `n`. -/
def SLOT (hO : Ok m) (c : Dev nD) (n : ℕ) : Vec F S1x128x2048 .bf16 := k0_pay2 (wA m hO c n) (wB m hO c n) (XP m hO c)

/-- The dense form of the delta of a point. -/
def denseAt (hO : Ok m) (c : Dev nD) (t : Fin (cfgM m hO).N) : Vec F S2048x512 .bf16 :=
  denseOf (iblk m hO c 3 t) (iblk m hO c 4 t) (iblk m hO c 5 t)

/-- The dense form of the delta of point `n`. -/
def DENSE (hO : Ok m) (c : Dev nD) (n : ℕ) : Vec F S2048x512 .bf16 :=
  denseAt m hO c (pt m hO n)

open Classical in
/-- Point `n`'s product added to `acc`, if its tenant has rows. -/
def addAt (hO : Ok m) (c : Dev nD) (n : ℕ) (acc : Vec F S128x512 .f32) : Vec F S128x512 .f32 :=
  if cond0_3 (grid0.coords (pt m hO n)) (wA m hO c n) (wB m hO c n) then k0_pay5 acc (SLOT m hO c (n % 7)) (DENSE m hO c n) else acc

/-- The accumulated product after point `n`. -/
def ACC (hO : Ok m) (c : Dev nD) : ℕ → Vec F S128x512 .f32
  | 0 => addAt m hO c 0 k0_pay4
  | n + 1 => addAt m hO c (n + 1) (if (n + 1) % 7 = 0 then k0_pay4 else ACC hO c n)

/-- The base product after point `n`. -/
def BASE (hO : Ok m) (c : Dev nD) : ℕ → Vec F S128x512 .f32
  | 0 => k0_pay3 (CODES m hO c) (iblk m hO c 1 (pt m hO 0))
  | n + 1 => if (n + 1) % 7 = 0 then k0_pay3 (CODES m hO c) (iblk m hO c 1 (pt m hO (n + 1))) else BASE hO c n

/-- The output block after point `n`, the last of its column. -/
def YV (hO : Ok m) (c : Dev nD) (n : ℕ) : Vec F S128x512 .bf16 :=
  yOf (SC m hO c) (BASE m hO c n) (iblk m hO c 2 (pt m hO n)) (ACC m hO c n)

/-- The carried scratch: permuted codes, masked codes, scale column, accumulated product, base product. -/
structure Scr (F : FTy → Type) [FloatOps F] where
  xp : Vec F S128x2048 .bf16
  xm : Vec F S7x128x2048 .bf16
  sc : Vec F S128x128 .f32
  acc : Vec F S128x512 .f32
  base : Vec F S128x512 .f32

/-- What point `t` makes of the scratch. -/
def step (hO : Ok m) (c : Dev nD) (t : Fin (cfgM m hO).N) (e : Scr F) : Scr F where
  xp := permAt (grid0.coords t) (iblk m hO c 0 t) e.xp
  xm := slotsAt (grid0.coords t) (word0 c (grid0.coords t) (tbl m 0)) (word1 c (grid0.coords t) (tbl m 0)) (permAt (grid0.coords t) (iblk m hO c 0 t) e.xp) e.xm
  sc := scAt (grid0.coords t) (iblk m hO c 0 t) e.sc
  acc := accAt (grid0.coords t) (word0 c (grid0.coords t) (tbl m 0)) (word1 c (grid0.coords t) (tbl m 0)) (startAt (grid0.coords t) e.acc)
    (slotsAt (grid0.coords t) (word0 c (grid0.coords t) (tbl m 0)) (word1 c (grid0.coords t) (tbl m 0)) (permAt (grid0.coords t) (iblk m hO c 0 t) e.xp) e.xm)
    (denseAt m hO c t)
  base := baseAt (grid0.coords t) (CODES m hO c) (iblk m hO c 1 t) e.base

/-- What the scratch holds before point `n`: nothing is said before the first. -/
structure Inv (hO : Ok m) (c : Dev nD) (n : ℕ) (e : Scr F) : Prop where
  xp : 0 < n → e.xp = XP m hO c
  sc : 0 < n → e.sc = SC m hO c
  base : 0 < n → e.base = BASE m hO c (n - 1)
  acc : 0 < n → e.acc = ACC m hO c (n - 1)
  xm : ∀ j, j < 7 → j < n → slotOf (grid0.coords (pt m hO j)) e.xm = SLOT m hO c j

/-- The slot a point reads is its position in the column. -/
theorem off4_val : ∀ t : Fin grid0.N, k0_off4 (grid0.coords t) = ![t.val % 7, 0, 0] := by
  decide +kernel

/-- Points of the same slot read the same. -/
theorem slotOf_congr {i i' : grid0.Coords} (h : k0_off4 i = k0_off4 i') (xm : Vec F S7x128x2048 .bf16) : slotOf i xm = slotOf i' xm := by
  have key : ∀ (o o' : Fin 3 → ℕ) (e : o = o') (p : ∀ a, o a + S1x128x2048.size a ≤ S7x128x2048.size a) (p' : ∀ a, o' a + S1x128x2048.size a ≤ S7x128x2048.size a),
      View.ld (Val := Elt F) (e' := .bf16) xm (Rect.unit (s := S7x128x2048) o S1x128x2048.size p) = View.ld (Val := Elt F) (e' := .bf16) xm (Rect.unit (s := S7x128x2048) o' S1x128x2048.size p') := by
    intro o o' e p p'; subst e; rfl
  exact key _ _ h _ _

/-- The slots after a point of the first column. -/
theorem slots_step (hO : Ok m) (c : Dev nD) (t : Fin (cfgM m hO).N) (xm : Vec F S7x128x2048 .bf16)
    (h : ∀ j, j < 7 → j < t.val → slotOf (grid0.coords (pt m hO j)) xm = SLOT m hO c j) (j : ℕ) (h7 : j < 7) (hj : j < t.val + 1) :
    slotOf (grid0.coords (pt m hO j)) (slotsAt (grid0.coords t) (word0 c (grid0.coords t) (tbl m 0)) (word1 c (grid0.coords t) (tbl m 0)) (XP m hO c) xm) = SLOT m hO c j := by
  unfold slotsAt
  by_cases h1 : t.val < 7
  · rw [if_pos ((hcond0_1 t).mpr h1)]
    by_cases e : j = t.val
    · subst e
      rw [pt_val]
      have := VecWindow.window_put_same xm (k0_off3 (grid0.coords t)) S1x128x2048.size (k0_off4_inb (grid0.coords t))
        (k0_pay2 (word0 c (grid0.coords t) (tbl m 0)) (word1 c (grid0.coords t) (tbl m 0)) (XP m hO c))
      refine Eq.trans this ?_
      unfold SLOT wA wB
      rw [pt_val]
    · rw [← h j h7 (by omega)]
      refine VecWindow.window_put_of_disjoint xm (k0_off3 (grid0.coords t)) S1x128x2048.size (k0_off4 (grid0.coords (pt m hO j))) S1x128x2048.size (k0_off4_inb _) _ (0 : Fin 3) ?_
      have e3 : k0_off3 (grid0.coords t) = k0_off4 (grid0.coords t) := rfl
      rw [e3, off4_val t, off4_val (pt m hO j)]
      show j % 77 % 7 + 1 ≤ t.val % 7 ∨ t.val % 7 + 1 ≤ j % 77 % 7
      omega
  · rw [if_neg (fun hc => h1 ((hcond0_1 t).mp hc))]
    exact h j h7 (by omega)

/-- A point's product, from the slot it reads. -/
theorem acc_step (hO : Ok m) (c : Dev nD) (t : Fin (cfgM m hO).N) (acc : Vec F S128x512 .f32) (xm : Vec F S7x128x2048 .bf16)
    (hs : slotOf (grid0.coords t) xm = SLOT m hO c (t.val % 7)) :
    accAt (grid0.coords t) (word0 c (grid0.coords t) (tbl m 0)) (word1 c (grid0.coords t) (tbl m 0)) acc xm
        (denseAt m hO c t) = addAt m hO c t.val acc := by
  unfold accAt addAt
  rw [hs]
  unfold wA wB DENSE
  rw [pt_val]

/-- What a point makes of the accumulated product. -/
theorem step_acc (hO : Ok m) (c : Dev nD) (t : Fin (cfgM m hO).N) (e : Scr F) :
    (step m hO c t e).acc = accAt (grid0.coords t) (word0 c (grid0.coords t) (tbl m 0)) (word1 c (grid0.coords t) (tbl m 0)) (startAt (grid0.coords t) e.acc) (step m hO c t e).xm (denseAt m hO c t) := by
  unfold step
  rfl

/-- A point carries the invariant on. -/
theorem inv_step (hO : Ok m) (c : Dev nD) (t : Fin (cfgM m hO).N) (e : Scr F) (h : Inv m hO c t.val e) : Inv m hO c (t.val + 1) (step m hO c t e) := by
  have h77 := lt77 m hO t
  have hxp : permAt (grid0.coords t) (iblk m hO c 0 t) e.xp = XP m hO c := by
    unfold permAt
    by_cases h0 : t.val = 0
    · rw [if_pos ((hcond0_0 t).mpr (by omega))]
      have : t = pt m hO 0 := by rw [← pt_val m hO t, h0]
      rw [this]; rfl
    · rw [if_neg (fun hc => h0 (by have := (hcond0_0 t).mp hc; omega))]
      exact h.xp (by omega)
  have hsl := slots_step m hO c t e.xm h.xm
  have hxm : (step m hO c t e).xm = slotsAt (grid0.coords t) (word0 c (grid0.coords t) (tbl m 0)) (word1 c (grid0.coords t) (tbl m 0)) (XP m hO c) e.xm := by
    unfold step
    dsimp only
    rw [hxp]
  refine ⟨fun _ => hxp, fun _ => ?_, fun _ => ?_, fun _ => ?_, ?_⟩
  · show scAt (grid0.coords t) (iblk m hO c 0 t) e.sc = _
    unfold scAt
    by_cases h0 : t.val = 0
    · rw [if_pos ((hcond0_0 t).mpr (by omega))]
      have : t = pt m hO 0 := by rw [← pt_val m hO t, h0]
      rw [this]; rfl
    · rw [if_neg (fun hc => h0 (by have := (hcond0_0 t).mp hc; omega))]
      exact h.sc (by omega)
  · show baseAt (grid0.coords t) (CODES m hO c) (iblk m hO c 1 t) e.base = BASE m hO c t.val
    unfold baseAt
    by_cases h0 : t.val % 7 = 0
    · rw [if_pos ((hcond0_2 t).mpr h0)]
      rcases Nat.eq_zero_or_pos t.val with hz | hp
      · rw [hz]
        have : t = pt m hO 0 := by rw [← pt_val m hO t, hz]
        rw [this]; rfl
      · obtain ⟨k, hk⟩ : ∃ k, t.val = k + 1 := ⟨t.val - 1, by omega⟩
        rw [hk]
        show _ = if (k + 1) % 7 = 0 then _ else _
        rw [if_pos (by omega), ← hk, pt_val]
    · rw [if_neg (fun hc => h0 ((hcond0_2 t).mp hc))]
      obtain ⟨k, hk⟩ : ∃ k, t.val = k + 1 := ⟨t.val - 1, by omega⟩
      rw [h.base (by omega), hk]
      show _ = if (k + 1) % 7 = 0 then _ else _
      rw [if_neg (by omega)]; rfl
  · have hs : slotOf (grid0.coords t) (step m hO c t e).xm = SLOT m hO c (t.val % 7) := by
      rw [← hsl (t.val % 7) (by omega) (by omega), hxm]
      refine slotOf_congr ?_ _
      rw [off4_val t, off4_val (pt m hO (t.val % 7))]
      show ![t.val % 7, 0, 0] = ![t.val % 7 % 77 % 7, 0, 0]
      rw [show t.val % 7 % 77 % 7 = t.val % 7 by omega]
    rw [step_acc, acc_step m hO c t _ _ hs]
    show addAt m hO c t.val (startAt (grid0.coords t) e.acc) = ACC m hO c t.val
    have hst : startAt (grid0.coords t) e.acc = if t.val % 7 = 0 then k0_pay4 else e.acc := by
      unfold startAt
      by_cases h0 : t.val % 7 = 0
      · rw [if_pos ((hcond0_2 t).mpr h0), if_pos h0]
      · rw [if_neg (fun hc => h0 ((hcond0_2 t).mp hc)), if_neg h0]
    rw [hst]
    rcases Nat.eq_zero_or_pos t.val with hz | hp
    · rw [hz]; rfl
    · obtain ⟨k, hk⟩ : ∃ k, t.val = k + 1 := ⟨t.val - 1, by omega⟩
      rw [h.acc hp, hk]; rfl
  · rw [hxm]
    exact hsl

/-- The block stored at the last point of a column. -/
theorem y_step (hO : Ok m) (c : Dev nD) (t : Fin (cfgM m hO).N) (e : Scr F) (h : Inv m hO c (t.val + 1) e) :
    yOf e.sc e.base (iblk m hO c 2 t) e.acc = YV m hO c t.val := by
  unfold YV
  rw [h.sc (by omega), h.base (by omega), h.acc (by omega), pt_val]; rfl

end Cert.KernelIdeal.Hand
-- ==== Proof.KernelIdeal.Track.lean ====
/- The run with its outputs named: the scratch between the points in closed form, the codes and scales written at the first
   point, each column's output block at the column's last point. -/

module

public import proofs.«01_k».proof.Proof.KernelIdeal.State
public import proofs.«01_k».proof.Proof.KernelIdeal.Frame
public import Idealize.ShloMosaic.Lib.Pipeline.Value
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point `n`: the carried scratch at contents of which `Inv` is known, the dense block at anything, the
    generator register at some state, and the tables. -/
def PhiS (hO : Ok m) (c : Dev nD) (n : ℕ) : sProp 𝕄 :=
  iprop(∃ e : Scr F, ⌜Inv m hO c n e⌝
    ∗ owns (c : Thread nD τ) scM0_0 fullShare e.xp
    ∗ owns (c : Thread nD τ) scM0_1 fullShare e.xm
    ∗ owns (c : Thread nD τ) scM0_2 fullShare e.sc
    ∗ owns (c : Thread nD τ) scM0_3 fullShare e.acc
    ∗ owns (c : Thread nD τ) scM0_4 fullShare e.base
    ∗ (∃ d, owns (c : Thread nD τ) scM0_5 fullShare d)
    ∗ (∃ r, prngReg c r)
    ∗ tbPt0 c tbM0_0 (tbl m 0))

/-- The proof data: the arrays as the region finds them; after point `t` each input's buffer at its block, the output block at
    its value, the codes and the scales at theirs; the invariant `PhiS`; nothing owed; full shares. -/
def tdats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => YV m hO c t.val
    | ⟨7, _⟩ => CODES m hO c
    | ⟨8, _⟩ => SCALES m hO c
  Φ t := PhiS m hO c t.val
  q _ := fullShare
  owed _ := 0

/-- The proof data's arrays are the region-entry contents: the proof data's definition projected (`dsimp`), so that
    `V` — a fold over @main's host prefix, long for some programs — is never unfolded to check it. -/
theorem tA_eq (hO : Ok m) (c : Dev nD) (w : Fin (cfgM m hO).W) : (tdats m hO 0 c).A w = V m c (Pipeline.arrRef spec0 w) := by
  dsimp only [tdats]

/-- What the body leaves, window by window (the proof data's `match` reduced by `dsimp`). -/
theorem tafter0_0 (hO : Ok m) (c : Dev nD) (t : Fin (cfgM m hO).N) : (tdats m hO 0 c).after 0 t = iblk m hO c 0 t := by dsimp only [tdats]; try rfl
/-- What a point leaves in window 1. -/
theorem tafter0_1 (hO : Ok m) (c : Dev nD) (t : Fin (cfgM m hO).N) : (tdats m hO 0 c).after 1 t = iblk m hO c 1 t := by dsimp only [tdats]; try rfl
/-- What a point leaves in window 2. -/
theorem tafter0_2 (hO : Ok m) (c : Dev nD) (t : Fin (cfgM m hO).N) : (tdats m hO 0 c).after 2 t = iblk m hO c 2 t := by dsimp only [tdats]; try rfl
/-- What a point leaves in window 3. -/
theorem tafter0_3 (hO : Ok m) (c : Dev nD) (t : Fin (cfgM m hO).N) : (tdats m hO 0 c).after 3 t = iblk m hO c 3 t := by dsimp only [tdats]; try rfl
/-- What a point leaves in window 4. -/
theorem tafter0_4 (hO : Ok m) (c : Dev nD) (t : Fin (cfgM m hO).N) : (tdats m hO 0 c).after 4 t = iblk m hO c 4 t := by dsimp only [tdats]; try rfl
/-- What a point leaves in window 5. -/
theorem tafter0_5 (hO : Ok m) (c : Dev nD) (t : Fin (cfgM m hO).N) : (tdats m hO 0 c).after 5 t = iblk m hO c 5 t := by dsimp only [tdats]; try rfl

/-- Each input's current staging buffer holds its block at every point, fetched there or not (`beforeK_W_of`). -/
theorem tbefore0_0 (hO : Ok m) (c : Dev nD) (t : Fin (cfgM m hO).N) (d) : (tdats m hO 0 c).before 0 t d = iblk m hO c 0 t :=
  before0_0_of m hO (tdats m hO 0 c) (tA_eq m hO c 0) (tafter0_0 m hO c) t d
/-- What a point finds in window 1. -/
theorem tbefore0_1 (hO : Ok m) (c : Dev nD) (t : Fin (cfgM m hO).N) (d) : (tdats m hO 0 c).before 1 t d = iblk m hO c 1 t :=
  before0_1_of m hO (tdats m hO 0 c) (tA_eq m hO c 1) (tafter0_1 m hO c) t d
/-- What a point finds in window 2. -/
theorem tbefore0_2 (hO : Ok m) (c : Dev nD) (t : Fin (cfgM m hO).N) (d) : (tdats m hO 0 c).before 2 t d = iblk m hO c 2 t :=
  before0_2_of m hO (tdats m hO 0 c) (tA_eq m hO c 2) (tafter0_2 m hO c) t d
/-- What a point finds in window 3. -/
theorem tbefore0_3 (hO : Ok m) (c : Dev nD) (t : Fin (cfgM m hO).N) (d) : (tdats m hO 0 c).before 3 t d = iblk m hO c 3 t :=
  before0_3_of m hO (tdats m hO 0 c) (tA_eq m hO c 3) (tafter0_3 m hO c) t d
/-- What a point finds in window 4. -/
theorem tbefore0_4 (hO : Ok m) (c : Dev nD) (t : Fin (cfgM m hO).N) (d) : (tdats m hO 0 c).before 4 t d = iblk m hO c 4 t :=
  before0_4_of m hO (tdats m hO 0 c) (tA_eq m hO c 4) (tafter0_4 m hO c) t d
/-- What a point finds in window 5. -/
theorem tbefore0_5 (hO : Ok m) (c : Dev nD) (t : Fin (cfgM m hO).N) (d) : (tdats m hO 0 c).before 5 t d = iblk m hO c 5 t :=
  before0_5_of m hO (tdats m hO 0 c) (tA_eq m hO c 5) (tafter0_5 m hO c) t d

/-- What a point leaves in window 6. -/
theorem tafter0_6 (hO : Ok m) (c : Dev nD) (t : Fin (cfgM m hO).N) : (tdats m hO 0 c).after 6 t = YV m hO c t.val := by dsimp only [tdats]; try rfl
/-- What a point leaves in window 7. -/
theorem tafter0_7 (hO : Ok m) (c : Dev nD) (t : Fin (cfgM m hO).N) : (tdats m hO 0 c).after 7 t = CODES m hO c := by dsimp only [tdats]; try rfl
/-- What a point leaves in window 8. -/
theorem tafter0_8 (hO : Ok m) (c : Dev nD) (t : Fin (cfgM m hO).N) : (tdats m hO 0 c).after 8 t = SCALES m hO c := by dsimp only [tdats]; try rfl

/-- The output window is idle but at the last point of a column; the codes' and the scales' but at the first point. -/
theorem idle0_6 (hO : Ok m) (t : Fin (cfgM m hO).N) : (cfgM m hO).idle 6 ((cfgM m hO).grid.coords t) = !(k0_cond5 (grid0.coords t) == 1#1) := rfl
/-- When window 7 is idle. -/
theorem idle0_7 (hO : Ok m) (t : Fin (cfgM m hO).N) : (cfgM m hO).idle 7 ((cfgM m hO).grid.coords t) = !(k0_cond1 (grid0.coords t) == 1#1) := rfl
/-- When window 8 is idle. -/
theorem idle0_8 (hO : Ok m) (t : Fin (cfgM m hO).N) : (cfgM m hO).idle 8 ((cfgM m hO).grid.coords t) = !(k0_cond1 (grid0.coords t) == 1#1) := rfl

/-- A window written at the first point, idle after and written back at the last holds stored contents between the two. -/
theorem fresh_kept (hO : Ok m) (w : Fin (cfgM m hO).W)
    (hidle : ∀ t : Fin (cfgM m hO).N, t.val = 0 → (cfgM m hO).idle w ((cfgM m hO).grid.coords t) = false)
    (hfl : ∀ t : Fin (cfgM m hO).N, t.val ≠ 76 → ((cfgM m hO).win w).flush t = false) :
    ∀ n, n < 76 → (cfgM m hO).fresh w (n + 1) = false := by
  have hN : (cfgM m hO).N = 77 := N_0
  intro n
  induction n with
  | zero =>
    intro h
    rw [Pipeline.Cfg.fresh_succ _ w 0 (by rw [hN]; omega), hfl _ (by show (0:ℕ) ≠ 76; omega), hidle _ rfl]; rfl
  | succ n ih =>
    intro h
    rw [Pipeline.Cfg.fresh_succ _ w (n + 1) (by rw [hN]; omega), hfl _ (by show n + 1 ≠ 76; omega), ih (by omega), Bool.and_false]; rfl

/-- The first point fills window 7. -/
theorem live_first_7 (hO : Ok m) (t : Fin (cfgM m hO).N) (h : t.val = 0) : (cfgM m hO).idle 7 ((cfgM m hO).grid.coords t) = false := by
  rw [idle0_7, show k0_cond1 (grid0.coords t) = 1#1 from (hcond0_0 t).mpr (by omega)]; rfl
/-- The first point fills window 8. -/
theorem live_first_8 (hO : Ok m) (t : Fin (cfgM m hO).N) (h : t.val = 0) : (cfgM m hO).idle 8 ((cfgM m hO).grid.coords t) = false := by
  rw [idle0_8, show k0_cond1 (grid0.coords t) = 1#1 from (hcond0_0 t).mpr (by omega)]; rfl
/-- Only the last point flushes window 7. -/
theorem noflush_7 (hO : Ok m) (t : Fin (cfgM m hO).N) (h : t.val ≠ 76) : ((cfgM m hO).win 7).flush t = false := by
  have := lt77 m hO t
  refine Bool.eq_false_iff.mpr fun hf => ?_
  have := (flush0_7 (adm m hO) t).mp hf
  omega
/-- Only the last point flushes window 8. -/
theorem noflush_8 (hO : Ok m) (t : Fin (cfgM m hO).N) (h : t.val ≠ 76) : ((cfgM m hO).win 8).flush t = false := by
  have := lt77 m hO t
  refine Bool.eq_false_iff.mpr fun hf => ?_
  have := (flush0_8 (adm m hO) t).mp hf
  omega

/-- The codes' and the scales' buffers hold them at every point but the first. -/
theorem tbefore0_7 (hO : Ok m) (c : Dev nD) (t : Fin (cfgM m hO).N) (ht : t.val ≠ 0) (d) : (tdats m hO 0 c).before 7 t d = CODES m hO c := by
  have h77 := lt77 m hO t
  obtain ⟨n, hn⟩ : ∃ n, t.val = n + 1 := ⟨t.val - 1, by omega⟩
  have hf : (cfgM m hO).fresh 7 t.val = false := by rw [hn]; exact fresh_kept m hO 7 (live_first_7 m hO) (noflush_7 m hO) n (by omega)
  rw [(tdats m hO 0 c).before_out_traj 7 rfl (fun _ _ => rfl) (fun t _ _ _ => by rw [tafter0_7, tafter0_7]) t.val t rfl d, hf, if_neg Bool.false_ne_true]
  exact tafter0_7 m hO c _
/-- What a point finds in window 8. -/
theorem tbefore0_8 (hO : Ok m) (c : Dev nD) (t : Fin (cfgM m hO).N) (ht : t.val ≠ 0) (d) : (tdats m hO 0 c).before 8 t d = SCALES m hO c := by
  have h77 := lt77 m hO t
  obtain ⟨n, hn⟩ : ∃ n, t.val = n + 1 := ⟨t.val - 1, by omega⟩
  have hf : (cfgM m hO).fresh 8 t.val = false := by rw [hn]; exact fresh_kept m hO 8 (live_first_8 m hO) (noflush_8 m hO) n (by omega)
  rw [(tdats m hO 0 c).before_out_traj 8 rfl (fun _ _ => rfl) (fun t _ _ _ => by rw [tafter0_8, tafter0_8]) t.val t rfl d, hf, if_neg Bool.false_ne_true]
  exact tafter0_8 m hO c _

/-- Equal assertions entail each other. -/
theorem ent_of_eq {P Q : sProp 𝕄} (h : P = Q) : P ⊢ Q := by rw [h]

/-- What the body leaves in the codes' and the scales' buffers. -/
theorem codesAt_pos {i : grid0.Coords} (x3 : Vec F S128x2048 .bf16) (x : Vec F S128x2048 .fp8e4m3) (h : cond0_0 i) : codesAt i x3 x = codesOf x3 := by unfold codesAt; rw [if_pos h]
/-- Later points keep the codes. -/
theorem codesAt_neg {i : grid0.Coords} (x3 : Vec F S128x2048 .bf16) (x : Vec F S128x2048 .fp8e4m3) (h : ¬ cond0_0 i) : codesAt i x3 x = x := by unfold codesAt; rw [if_neg h]
/-- The codes hold after every point. -/
theorem codesAt_before (hO : Ok m) (c : Dev nD) (t : Fin (cfgM m hO).N) (d) :
    codesAt (grid0.coords t) (iblk m hO c 0 t) ((tdats m hO 0 c).before 7 t d) = CODES m hO c := by
  have h77 := lt77 m hO t
  by_cases h0 : t.val = 0
  · refine (codesAt_pos _ _ ((hcond0_0 t).mpr (by omega))).trans ?_
    have : t = pt m hO 0 := by rw [← pt_val m hO t, h0]
    rw [this]; rfl
  · exact (codesAt_neg _ _ (fun hc => h0 (by have := (hcond0_0 t).mp hc; omega))).trans (tbefore0_7 m hO c t h0 d)
/-- The first point stores the scales. -/
theorem scalesAt_pos {i : grid0.Coords} (x3 : Vec F S128x2048 .bf16) (x : Vec F S1x128 .f32) (h : cond0_0 i) : scalesAt i x3 x = scalesOf x3 := by unfold scalesAt; rw [if_pos h]
/-- Later points keep the scales. -/
theorem scalesAt_neg {i : grid0.Coords} (x3 : Vec F S128x2048 .bf16) (x : Vec F S1x128 .f32) (h : ¬ cond0_0 i) : scalesAt i x3 x = x := by unfold scalesAt; rw [if_neg h]
/-- The scales hold after every point. -/
theorem scalesAt_before (hO : Ok m) (c : Dev nD) (t : Fin (cfgM m hO).N) (d) :
    scalesAt (grid0.coords t) (iblk m hO c 0 t) ((tdats m hO 0 c).before 8 t d) = SCALES m hO c := by
  have h77 := lt77 m hO t
  by_cases h0 : t.val = 0
  · refine (scalesAt_pos _ _ ((hcond0_0 t).mpr (by omega))).trans ?_
    have : t = pt m hO 0 := by rw [← pt_val m hO t, h0]
    rw [this]; rfl
  · exact (scalesAt_neg _ _ (fun hc => h0 (by have := (hcond0_0 t).mp hc; omega))).trans (tbefore0_8 m hO c t h0 d)
/-- The last tenant stores the output block. -/
theorem yAt_pos {i : grid0.Coords} (sc : Vec F S128x128 .f32) (base : Vec F S128x512 .f32) (x5 : Vec F S1x512 .f32) (acc : Vec F S128x512 .f32) (x9 : Vec F S128x512 .bf16) (h : cond0_4 i) :
    yAt i sc base x5 acc x9 = yOf sc base x5 acc := by unfold yAt; rw [if_pos h]
/-- Other points keep the output block. -/
theorem yAt_neg {i : grid0.Coords} (sc : Vec F S128x128 .f32) (base : Vec F S128x512 .f32) (x5 : Vec F S1x512 .f32) (acc : Vec F S128x512 .f32) (x9 : Vec F S128x512 .bf16) (h : ¬ cond0_4 i) :
    yAt i sc base x5 acc x9 = x9 := by unfold yAt; rw [if_neg h]

/-- The output window between the last points of the columns, and at them. -/
theorem leaves_6 (hO : Ok m) (c : Dev nD) (t : Fin (cfgM m hO).N) (sc base x5 acc) (d)
    (h : t.val % 7 = 6 → yOf sc base x5 acc = YV m hO c t.val) :
    owns (c : Thread nD τ) (ms0_6 m hO t) fullShare (yAt (grid0.coords t) sc base x5 acc ((tdats m hO 0 c).before 6 t d)) ⊢ ((tdats m hO 0 c).leavesExact 6 t : sProp 𝕄) := by
  by_cases h6 : t.val % 7 = 6
  · refine (ent_of_eq (congrArg (owns (c : Thread nD τ) (ms0_6 m hO t) fullShare) ((yAt_pos sc base x5 acc _ ((hcond0_4 t).mpr h6)).trans (h h6)))).trans ?_
    unfold Dat.leavesExact
    rw [idle0_6, show k0_cond5 (grid0.coords t) = 1#1 from (hcond0_4 t).mpr h6, tafter0_6]
    exact Idealize.SL.BI.Entails.refl _
  · rw [(tdats m hO 0 c).leavesExact_idle 6 t (by rw [idle0_6]; simpa using fun hc => h6 ((hcond0_4 t).mp hc))
      (Bool.eq_false_iff.mpr fun hf => h6 ((flush0_6 (adm m hO) t).mp hf))]
    refine (ent_of_eq (congrArg (owns (c : Thread nD τ) (ms0_6 m hO t) fullShare) (yAt_neg sc base x5 acc ((tdats m hO 0 c).before 6 t d) (fun hc => h6 ((hcond0_4 t).mp hc))))).trans ?_
    iintro H
    iexists d
    iexact H

/-- The codes' window and the scales' window at every point. -/
theorem leaves_7 (hO : Ok m) (c : Dev nD) (t : Fin (cfgM m hO).N) (d : ((cfgM m hO).win 7).block.Idx → Elt F ((cfgM m hO).win 7).elt) :
    owns (c : Thread nD τ) (ms0_7 m hO t) fullShare (CODES m hO c) ⊢ ((tdats m hO 0 c).leavesExact 7 t : sProp 𝕄) := by
  have h77 := lt77 m hO t
  by_cases h0 : t.val = 0
  · unfold Dat.leavesExact
    rw [live_first_7 m hO t h0, tafter0_7]
    exact Idealize.SL.BI.Entails.refl _
  · have hi : (cfgM m hO).idle 7 ((cfgM m hO).grid.coords t) = true := by
      rw [idle0_7]; simpa using fun hc => h0 (by have := (hcond0_0 t).mp hc; omega)
    by_cases hl : t.val = 76
    · unfold Dat.leavesExact
      rw [hi, show ((cfgM m hO).win 7).flush t = true from (flush0_7 (adm m hO) t).mpr (by omega), tafter0_7]
      exact Idealize.SL.BI.Entails.refl _
    · rw [(tdats m hO 0 c).leavesExact_idle 7 t hi (noflush_7 m hO t hl)]
      refine (ent_of_eq (congrArg (owns (c : Thread nD τ) (ms0_7 m hO t) fullShare) (tbefore0_7 m hO c t h0 d).symm)).trans ?_
      iintro H
      iexists d
      iexact H
/-- What a point leaves in the array of scales. -/
theorem leaves_8 (hO : Ok m) (c : Dev nD) (t : Fin (cfgM m hO).N) (d : ((cfgM m hO).win 8).block.Idx → Elt F ((cfgM m hO).win 8).elt) :
    owns (c : Thread nD τ) (ms0_8 m hO t) fullShare (SCALES m hO c) ⊢ ((tdats m hO 0 c).leavesExact 8 t : sProp 𝕄) := by
  have h77 := lt77 m hO t
  by_cases h0 : t.val = 0
  · unfold Dat.leavesExact
    rw [live_first_8 m hO t h0, tafter0_8]
    exact Idealize.SL.BI.Entails.refl _
  · have hi : (cfgM m hO).idle 8 ((cfgM m hO).grid.coords t) = true := by
      rw [idle0_8]; simpa using fun hc => h0 (by have := (hcond0_0 t).mp hc; omega)
    by_cases hl : t.val = 76
    · unfold Dat.leavesExact
      rw [hi, show ((cfgM m hO).win 8).flush t = true from (flush0_8 (adm m hO) t).mpr (by omega), tafter0_8]
      exact Idealize.SL.BI.Entails.refl _
    · rw [(tdats m hO 0 c).leavesExact_idle 8 t hi (noflush_8 m hO t hl)]
      refine (ent_of_eq (congrArg (owns (c : Thread nD τ) (ms0_8 m hO t) fullShare) (tbefore0_8 m hO c t h0 d).symm)).trans ?_
      iintro H
      iexists d
      iexact H

/-! ## The body obligation, at a generic point -/

/-- What the body is called with at point `t` (Lib/Pipeline.lean `BodyObligation`'s precondition, the windows one by one), -/
def tbodyPre (hO : Ok m) (c : Dev nD) (t : Fin (cfgM m hO).N) : sProp 𝕄 :=
  iprop((tdats m hO 0 c).Φ t.castSucc ∗ (tdats m hO 0 c).owesAt () t.castSucc
    ∗ (∃ d, owns (c : Thread nD τ) (ms0_0 m hO t) fullShare ((tdats m hO 0 c).before 0 t d))
    ∗ (∃ d, owns (c : Thread nD τ) (ms0_1 m hO t) fullShare ((tdats m hO 0 c).before 1 t d))
    ∗ (∃ d, owns (c : Thread nD τ) (ms0_2 m hO t) fullShare ((tdats m hO 0 c).before 2 t d))
    ∗ (∃ d, owns (c : Thread nD τ) (ms0_3 m hO t) fullShare ((tdats m hO 0 c).before 3 t d))
    ∗ (∃ d, owns (c : Thread nD τ) (ms0_4 m hO t) fullShare ((tdats m hO 0 c).before 4 t d))
    ∗ (∃ d, owns (c : Thread nD τ) (ms0_5 m hO t) fullShare ((tdats m hO 0 c).before 5 t d))
    ∗ (∃ d, owns (c : Thread nD τ) (ms0_6 m hO t) fullShare ((tdats m hO 0 c).before 6 t d))
    ∗ (∃ d, owns (c : Thread nD τ) (ms0_7 m hO t) fullShare ((tdats m hO 0 c).before 7 t d))
    ∗ (∃ d, owns (c : Thread nD τ) (ms0_8 m hO t) fullShare ((tdats m hO 0 c).before 8 t d)))

/-- and what it returns. -/
def tbodyPost (hO : Ok m) (c : Dev nD) (t : Fin (cfgM m hO).N) : sProp 𝕄 :=
  iprop((tdats m hO 0 c).Φ t.succ ∗ (tdats m hO 0 c).owesAt () t.succ
    ∗ (tdats m hO 0 c).leavesExact 0 t
    ∗ (tdats m hO 0 c).leavesExact 1 t
    ∗ (tdats m hO 0 c).leavesExact 2 t
    ∗ (tdats m hO 0 c).leavesExact 3 t
    ∗ (tdats m hO 0 c).leavesExact 4 t
    ∗ (tdats m hO 0 c).leavesExact 5 t
    ∗ (tdats m hO 0 c).leavesExact 6 t
    ∗ (tdats m hO 0 c).leavesExact 7 t
    ∗ (tdats m hO 0 c).leavesExact 8 t)

set_option maxHeartbeats 4000000 in
/-- The body at any point: the inputs' buffers hold their blocks, everything else anything, before and after. -/
theorem tsound_body (hO : Ok m) (c : Dev nD) (t : Fin (cfgM m hO).N) :
    tbodyPre m hO c t ⊢ wp frame (wpE (defs₀ (F := F)) Variants.none c none) Set.univ (bodyAt0 (adm m hO) t) (fun _ => tbodyPost m hO c t) := by
  unfold tbodyPre tbodyPost bodyAt0
  simp only [tbefore0_0, tbefore0_1, tbefore0_2, tbefore0_3, tbefore0_4, tbefore0_5]
  rw [show (tdats m hO 0 c).owesAt () t.succ = (tdats m hO 0 c).owesAt () t.castSucc from rfl]
  rw [show (tdats m hO 0 c).Φ t.succ = PhiS m hO c (t.val + 1) from rfl, show (tdats m hO 0 c).Φ t.castSucc = PhiS m hO c t.val from rfl]
  unfold PhiS
  have hN : t.val < 77 := lt_of_lt_of_eq t.isLt (show (cfgM m hO).N = 77 from N_0)
  rw [show (tdats m hO 0 c).leavesExact 0 t = owns (c : Thread nD τ) (ms0_0 m hO t) fullShare ((tdats m hO 0 c).after 0 t) from by
    unfold Dat.leavesExact; rw [liveAt0_0 m hO t]; try rfl, tafter0_0]
  rw [show (tdats m hO 0 c).leavesExact 1 t = owns (c : Thread nD τ) (ms0_1 m hO t) fullShare ((tdats m hO 0 c).after 1 t) from by
    unfold Dat.leavesExact; rw [liveAt0_1 m hO t]; try rfl, tafter0_1]
  rw [show (tdats m hO 0 c).leavesExact 2 t = owns (c : Thread nD τ) (ms0_2 m hO t) fullShare ((tdats m hO 0 c).after 2 t) from by
    unfold Dat.leavesExact; rw [liveAt0_2 m hO t]; try rfl, tafter0_2]
  rw [show (tdats m hO 0 c).leavesExact 3 t = owns (c : Thread nD τ) (ms0_3 m hO t) fullShare ((tdats m hO 0 c).after 3 t) from by
    unfold Dat.leavesExact; rw [liveAt0_3 m hO t]; try rfl, tafter0_3]
  rw [show (tdats m hO 0 c).leavesExact 4 t = owns (c : Thread nD τ) (ms0_4 m hO t) fullShare ((tdats m hO 0 c).after 4 t) from by
    unfold Dat.leavesExact; rw [liveAt0_4 m hO t]; try rfl, tafter0_4]
  rw [show (tdats m hO 0 c).leavesExact 5 t = owns (c : Thread nD τ) (ms0_5 m hO t) fullShare ((tdats m hO 0 c).after 5 t) from by
    unfold Dat.leavesExact; rw [liveAt0_5 m hO t]; try rfl, tafter0_5]
  iintro ⟨⟨%e, %hI, HS0, HS1, HS2, HS3, HS4, HS5, Hg, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hI' := inv_step m hO c t e hI
  iapply (bodyStep c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m hO c 0 t) (iblk m hO c 1 t) (iblk m hO c 2 t) (iblk m hO c 3 t) (iblk m hO c 4 t) (iblk m hO c 5 t) ((tdats m hO 0 c).before 6 t d6) ((tdats m hO 0 c).before 7 t d7) ((tdats m hO 0 c).before 8 t d8) e.xp e.xm e.sc e.acc e.base (tbl m 0) Set.univ _
    (fun h => ⟨(hcond0_1 t).mpr (by have := (hcond0_0 t).mp h; omega), (hcond0_2 t).mpr (by have := (hcond0_0 t).mp h; omega)⟩)
    (fun h h' => by have := (hcond0_2 t).mp h; have := (hcond0_4 t).mp h'; omega)
    (fun h h' => (hcond0_0 t).mpr (by have := (hcond0_1 t).mp h; have := (hcond0_2 t).mp h'; omega)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  rw [codesAt_before m hO c t d7, scalesAt_before m hO c t d8]
  rw [show permAt (grid0.coords t) (iblk m hO c 0 t) e.xp = (step m hO c t e).xp from rfl]
  rw [show slotsAt (grid0.coords t) (word0 c (grid0.coords t) (tbl m 0)) (word1 c (grid0.coords t) (tbl m 0)) (step m hO c t e).xp e.xm = (step m hO c t e).xm from rfl]
  rw [show scAt (grid0.coords t) (iblk m hO c 0 t) e.sc = (step m hO c t e).sc from rfl]
  rw [show denseOf (iblk m hO c 3 t) (iblk m hO c 4 t) (iblk m hO c 5 t) = denseAt m hO c t from rfl]
  rw [← step_acc m hO c t e]
  rw [show baseAt (grid0.coords t) (CODES m hO c) (iblk m hO c 1 t) e.base = (step m hO c t e).base from rfl]
  iintro ⟨H0, H1, H2, H3, H4, H5, H6, H7, H8, HS0, HS1, HS2, HS3, HS4, HS5, HT0⟩
  isplitl [HS0 HS1 HS2 HS3 HS4 HS5 Hg HT0]
  · iexists (step m hO c t e)
    isplitr; · ipureintro; exact hI'
    isplitl [HS0]; · iexact HS0
    isplitl [HS1]; · iexact HS1
    isplitl [HS2]; · iexact HS2
    isplitl [HS3]; · iexact HS3
    isplitl [HS4]; · iexact HS4
    isplitl [HS5]; · iexact HS5
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m hO c t _ _ _ _ d6 (fun _ => y_step m hO c t _ hI')) $$ H6
  isplitl [H7]; · iapply (leaves_7 m hO c t d7) $$ H7
  iapply (leaves_8 m hO c t d8) $$ H8

/-- The library's body obligation, at every point: the body's triple restated (Lib/Pipeline/FrameBody.lean `triple_restated`). -/
theorem tbody_obligation (hO : Ok m) (c : Dev nD) : BodyObligation (tdats (F := F) m hO 0 c) (defs₀ (F := F)) Variants.none () Set.univ := fun t => by
  rw [bigSep_W0, bigSep_W0, defs₀_row m hO]
  exact triple_restated (tsound_body m hO c t) rfl .rfl fun _ => .rfl

/-- What the launch hands the region is the invariant before the first point, and the invariant after the last gives it back. -/
theorem thin (hO : Ok m) (c : Dev nD) : iprop(Pipeline.ΦA spec0 c ∗ Pipeline.ΦT pre0 (tbl m) c) ⊢ (tdats m hO 0 c).Φ 0 := by
  rw [show (tdats m hO 0 c).Φ 0 = PhiS m hO c 0 from rfl, PhiT0_eq, PhiA0_eq]
  unfold PhiS
  iintro ⟨⟨⟨⟨%e0, HS0⟩, ⟨%e1, HS1⟩, ⟨%e2, HS2⟩, ⟨%e3, HS3⟩, ⟨%e4, HS4⟩, HS5⟩, Hg⟩, HT0⟩
  iexists (⟨e0, e1, e2, e3, e4⟩ : Scr F)
  isplitr
  · ipureintro
    exact ⟨fun h => absurd h (by omega), fun h => absurd h (by omega), fun h => absurd h (by omega), fun h => absurd h (by omega), fun j _ h => absurd h (by omega)⟩
  isplitl [HS0]; · iexact HS0
  isplitl [HS1]; · iexact HS1
  isplitl [HS2]; · iexact HS2
  isplitl [HS3]; · iexact HS3
  isplitl [HS4]; · iexact HS4
  isplitl [HS5]; · iexact HS5
  isplitl [Hg]; · iexact Hg
  iexact HT0
/-- The tracked contents at the end give the scratch back. -/
theorem thout (hO : Ok m) (c : Dev nD) : (tdats m hO 0 c).Φ (Fin.last (cfgM m hO).N) ⊢ Pipeline.ΦA spec0 c := by
  rw [show (tdats m hO 0 c).Φ (Fin.last (cfgM m hO).N) = PhiS m hO c (cfgM m hO).N from rfl, PhiA0_eq]
  unfold PhiS
  iintro ⟨%e, -, HS0, HS1, HS2, HS3, HS4, HS5, Hg, -⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact HS5
  iexact Hg

/-! ## The run -/

set_option backward.isDefEq.respectTransparency.types false in
/-- The kernel runs to its end from every memory and leaves each output array at what its points wrote back. -/
theorem run_named (hO : Ok m) : θ_run defs (onTc (τ := τ) (main (F := F))) (s₀ m ρ) (Pipeline.FramePost (Pipeline.pin pcfgs fun _ => adm m hO) (tdats m hO) 0 (V m)) :=
  Pipeline.θ_run_frameP_track (Q' := _) pcfgs (fun _ => adm m hO) (tdats m hO) (0 : Fin 1) launch0 defs₀ Variants.none m ρ main
    (hbody := fun c => (tbody_obligation m hO c).loose) (hshare := fun c => (tdats m hO 0 c).share_full fun _ => rfl)
    (howed := fun _ _ => rfl) (V := V m) (hmain := hmain m Variants.none) (hA := tA_eq m hO) (hpf := V_pre m) (hin := thin m hO) (hout := thout m hO)

end Cert.KernelIdeal.Hand
-- ==== Proof.KernelIdeal.Final.lean ====
/- What the idealized kernel leaves in its codes and its scales. -/

module

public import proofs.«01_k».proof.Proof.KernelIdeal.Track
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The last point writes the whole array of codes. -/
theorem whole7 (hO : Ok m) : ((cfgM m hO).win 7).WholeAt (pt m hO 76) :=
  ⟨(flush0_7 (adm m hO) _).mpr rfl,
    fun t h => Fin.ext (by have := (flush0_7 (adm m hO) t).mp h; have := lt77 m hO t; show t.val = 76; omega),
    fun a => ⟨by fin_cases a <;> rfl, by fin_cases a <;> rfl⟩⟩

/-- The last point writes the whole array of scales. -/
theorem whole8 (hO : Ok m) : ((cfgM m hO).win 8).WholeAt (pt m hO 76) :=
  ⟨(flush0_8 (adm m hO) _).mpr rfl,
    fun t h => Fin.ext (by have := (flush0_8 (adm m hO) t).mp h; have := lt77 m hO t; show t.val = 76; omega),
    fun a => ⟨by fin_cases a <;> rfl, by fin_cases a <;> rfl⟩⟩

/-- The codes after the run. -/
theorem codes_arr (hO : Ok m) (c : Dev nD) : (tdats m hO 0 c).arrAt 7 (cfgM m hO).N = CODES m hO c := by
  refine (tdats m hO 0 c).arrAt_eq_of_after_last 7 (pt m hO 76) (whole7 m hO) _ fun j => ?_
  rw [tafter0_7]
  blk_simp
  rfl

/-- The scales after the run. -/
theorem scales_arr (hO : Ok m) (c : Dev nD) : (tdats m hO 0 c).arrAt 8 (cfgM m hO).N = SCALES m hO c := by
  refine (tdats m hO 0 c).arrAt_eq_of_after_last 8 (pt m hO 76) (whole8 m hO) _ fun j => ?_
  rw [tafter0_8]
  blk_simp
  rfl

/-- The block of activations a point reads: the argument's only row block. -/
theorem iblk0 (hO : Ok m) (c : Dev nD) (n : ℕ) : iblk m hO c 0 (pt m hO n) = V m c main_v0 := by
  funext y
  blk_simp [iblk]
  refine congrArg (V m c main_v0) (funext fun a => Fin.ext ?_)
  refine (Pipeline.Window.rect_emb_val ((cfgM m hO).win 0) (pt m hO n) y a).trans ?_
  fin_cases a <;> exact Nat.zero_add _

/-- The activations as the region finds them: the argument, reshaped. -/
theorem V_main_v0 (c : Dev nD) : V m c main_v0 = shapeCast S128x2048 (m ((c : Thread nD τ).loc main_arg0)) shapeCasts_S1x128x2048_S128x2048 := by
  unfold V; after_results_simp; rfl

/-- The output scales as the region finds them: the argument, reshaped. -/
theorem V_main_v1 (c : Dev nD) : V m c main_v1 = shapeCast S1x5632 (m ((c : Thread nD τ).loc main_arg2)) shapeCasts_S5632_S1x5632 := by
  unfold V; after_results_simp; rfl

end Cert.KernelIdeal.Hand
-- ==== Proof.RefFinal.lean ====
/- What the reference leaves in its outputs, as its body's values at the arguments. -/

module

public import proofs.«01_k».proof.Proof.Gen.ReferenceIdeal.Value
public import Idealize.ShloMosaic.Lib.Pipeline.ValueKit
public import Idealize.ShloMosaic.Lib.Pipeline.ReadBack

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The one grid point. -/
def t0 : Fin cfg0.N := ⟨0, by decide⟩

/-- The codes the reference leaves are its quantiser at the activations. -/
theorem codes_arr (c : Dev nD) (X : Vec F S128x2048 .bf16) (hX : iblk m c 0 t0 = X) : (dats m 0 c).arrAt 8 cfg0.N = k0_pay4 X := by
  refine (dats m 0 c).arrAt_eq_of_after_last 8 t0 (by decide +kernel) _ fun j => ?_
  blk_simp
  rw [after0_8]
  unfold outsAt0
  frame_out
  simp only [read_unread_whole]
  rw [hX]

/-- The scales the reference leaves are its quantiser at the activations. -/
theorem scales_arr (c : Dev nD) (X : Vec F S128x2048 .bf16) (hX : iblk m c 0 t0 = X) : (dats m 0 c).arrAt 9 cfg0.N = k0_pay5 X := by
  refine (dats m 0 c).arrAt_eq_of_after_last 9 t0 (by decide +kernel) _ fun j => ?_
  blk_simp
  rw [after0_9]
  unfold outsAt0
  frame_out
  simp only [read_unread_whole]
  rw [hX]

/-- The activations as the body reads them: the first argument reshaped. -/
theorem V_main_v0 (c : Dev nD) : V m c main_v0 = shapeCast S128x2048 (m ((c : Thread nD τ).loc main_arg0)) shapeCasts_S1x128x2048_S128x2048 := by
  unfold V; after_results_simp; rfl

/-- The column scales as the body reads them: the third argument reshaped. -/
theorem V_main_v1 (c : Dev nD) : V m c main_v1 = shapeCast S1x5632 (m ((c : Thread nD τ).loc main_arg2)) shapeCasts_S5632_S1x5632 := by
  unfold V; after_results_simp; rfl

/-- Window 0 is its whole array. -/
theorem iblk0 (c : Dev nD) : iblk m c 0 t0 = V m c main_v0 := by
  funext y
  blk_simp [iblk]
  refine congrArg (V m c main_v0) (funext fun a => Fin.ext ?_)
  refine (Pipeline.Window.rect_emb_val_of_index_zero (cfg0.win 0) t0 a (by fin_cases a <;> rfl) y)

/-- Window 1 is its whole array. -/
theorem iblk1 (c : Dev nD) : iblk m c 1 t0 = V m c main_arg1 := by
  funext y
  blk_simp [iblk]
  refine congrArg (V m c main_arg1) (funext fun a => Fin.ext ?_)
  refine (Pipeline.Window.rect_emb_val_of_index_zero (cfg0.win 1) t0 a (by fin_cases a <;> rfl) y)

/-- Window 2 is its whole array. -/
theorem iblk2 (c : Dev nD) : iblk m c 2 t0 = V m c main_v1 := by
  funext y
  blk_simp [iblk]
  refine congrArg (V m c main_v1) (funext fun a => Fin.ext ?_)
  refine (Pipeline.Window.rect_emb_val_of_index_zero (cfg0.win 2) t0 a (by fin_cases a <;> rfl) y)

/-- Window 3 is its whole array. -/
theorem iblk3 (c : Dev nD) : iblk m c 3 t0 = V m c main_arg3 := by
  funext y
  blk_simp [iblk]
  refine congrArg (V m c main_arg3) (funext fun a => Fin.ext ?_)
  refine (Pipeline.Window.rect_emb_val_of_index_zero (cfg0.win 3) t0 a (by fin_cases a <;> rfl) y)

/-- Window 4 is its whole array. -/
theorem iblk4 (c : Dev nD) : iblk m c 4 t0 = V m c main_arg4 := by
  funext y
  blk_simp [iblk]
  refine congrArg (V m c main_arg4) (funext fun a => Fin.ext ?_)
  refine (Pipeline.Window.rect_emb_val_of_index_zero (cfg0.win 4) t0 a (by fin_cases a <;> rfl) y)

/-- Window 5 is its whole array. -/
theorem iblk5 (c : Dev nD) : iblk m c 5 t0 = V m c main_arg5 := by
  funext y
  blk_simp [iblk]
  refine congrArg (V m c main_arg5) (funext fun a => Fin.ext ?_)
  refine (Pipeline.Window.rect_emb_val_of_index_zero (cfg0.win 5) t0 a (by fin_cases a <;> rfl) y)

/-- Window 6 is its whole array. -/
theorem iblk6 (c : Dev nD) : iblk m c 6 t0 = V m c main_arg6 := by
  funext y
  blk_simp [iblk]
  refine congrArg (V m c main_arg6) (funext fun a => Fin.ext ?_)
  refine (Pipeline.Window.rect_emb_val_of_index_zero (cfg0.win 6) t0 a (by fin_cases a <;> rfl) y)

end Cert.ReferenceIdeal.Hand
-- ==== Proof.KernelIdeal.Blocks.lean ====
/- The blocks of the arguments that the grid points read, entry by entry, and the offsets they read. -/

module

public import proofs.«01_k».proof.Proof.KernelIdeal.Final

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- A point's column block and tenant, as the words the index maps make of its coordinates. -/
theorem coord_words : ∀ t : Fin grid0.N, (BitVec.ofNat 32 (grid0.coords t 0).val).toNat = t.val / 7 ∧ (grid0.coords t 1).val = t.val % 7 := by
  decide +kernel

/-- The two places of the offsets a point reads. -/
theorem off_words : ∀ t : Fin grid0.N, k0_off2 (grid0.coords t) = ![t.val % 7] ∧ k0_off1 (grid0.coords t) = ![t.val % 7 + 1] := by
  decide +kernel

/-- The block of base weights a point reads. -/
theorem iblk1 (hO : Ok m) (c : Dev nD) (n : ℕ) (hn : n < 77) (k : Fin 2048) (l : Fin 512) (q : Fin 5632) (hq : q.val = 512 * (n / 7) + l.val) :
    iblk m hO c 1 (pt m hO n) (ix2 k l) = V m c main_arg1 (ix2 k q) := by
  blk_simp [iblk]
  refine congrArg (V m c main_arg1) (funext fun a => Fin.ext ?_)
  refine (Pipeline.Window.rect_emb_val ((cfgM m hO).win 1) (pt m hO n) (ix2 k l) a).trans ?_
  fin_cases a
  · exact (Nat.zero_add _)
  · show (BitVec.ofNat 32 (grid0.coords (pt m hO n) 0).val).toNat * 512 + l.val = q.val
    rw [(coord_words (pt m hO n)).1]
    show n % 77 / 7 * 512 + l.val = q.val
    omega

/-- The block of output scales a point reads. -/
theorem iblk2 (hO : Ok m) (c : Dev nD) (n : ℕ) (hn : n < 77) (l : Fin 512) (q : Fin 5632) (hq : q.val = 512 * (n / 7) + l.val) :
    iblk m hO c 2 (pt m hO n) (ix2 0 l) = V m c main_v1 (ix2 0 q) := by
  blk_simp [iblk]
  refine congrArg (V m c main_v1) (funext fun a => Fin.ext ?_)
  refine (Pipeline.Window.rect_emb_val ((cfgM m hO).win 2) (pt m hO n) (ix2 0 l) a).trans ?_
  fin_cases a
  · exact (Nat.zero_add _)
  · show (BitVec.ofNat 32 (grid0.coords (pt m hO n) 0).val).toNat * 512 + l.val = q.val
    rw [(coord_words (pt m hO n)).1]
    show n % 77 / 7 * 512 + l.val = q.val
    omega

/-- The first offset a point reads. -/
theorem wA_at (hO : Ok m) (c : Dev nD) (n : ℕ) (hn : n < 77) (y : S8.Idx) (hy : (y 0).val = n % 7) : wA m hO c n = tbl m 0 y := by
  have h := congrFun (off_words (pt m hO n)).1 0
  unfold wA word0
  refine congrArg (tbl m 0) (funext fun a => Fin.ext ?_)
  fin_cases a
  show k0_off2 (grid0.coords (pt m hO n)) 0 + 1 * 0 = (y 0).val
  rw [h, hy]
  show n % 77 % 7 + 1 * 0 = n % 7
  omega

/-- The second offset a point reads. -/
theorem wB_at (hO : Ok m) (c : Dev nD) (n : ℕ) (hn : n < 77) (y : S8.Idx) (hy : (y 0).val = n % 7 + 1) : wB m hO c n = tbl m 0 y := by
  have h := congrFun (off_words (pt m hO n)).2 0
  unfold wB word1
  refine congrArg (tbl m 0) (funext fun a => Fin.ext ?_)
  fin_cases a
  show k0_off1 (grid0.coords (pt m hO n)) 0 + 1 * 0 = (y 0).val
  rw [h, hy]
  show n % 77 % 7 + 1 + 1 * 0 = n % 7 + 1
  omega

/-- The tenant whose delta a point reads, as a word, where the tenant has rows. -/
theorem tenant_word (i : ℕ) (hi : i < 7) (a b : BitVec 32) (h : Scalar.cmpi .sgt b a = 1#1) :
    (Scalar.select (Scalar.cmpi .sgt b a) (BitVec.ofNat 32 i) (Scalar.maxsi (Scalar.subi (BitVec.ofNat 32 i) 1#32) 0#32)).toNat = i := by
  rw [h]
  show (BitVec.ofNat 32 i).toNat = i
  rw [BitVec.toNat_ofNat]; omega

/-- The word a table read at the second offset gives. -/
theorem at1 (c : Dev nD) (i : grid0.Coords) : (tbl m).at 0 (Rect.unit (s := S8) (k0_off1 i) S1.size (k0_off1_inb i)) numel1_S1 = word1 c i (tbl m 0) := by
  unfold word1
  rfl

/-- The word a table read at the first offset gives. -/
theorem at2 (c : Dev nD) (i : grid0.Coords) : (tbl m).at 0 (Rect.unit (s := S8) (k0_off2 i) S1.size (k0_off2_inb i)) numel1_S1 = word0 c i (tbl m 0) := by
  unfold word0
  rfl

/-- The block index of the delta windows from the two offsets read. -/
def deltaIdx (i : grid0.Coords) (x y : BitVec 32) : Fin 3 → ℕ :=
  ![(Scalar.select (Scalar.cmpi .sgt x y) (BitVec.ofNat 32 (i 1).val) (Scalar.maxsi (Scalar.subi (BitVec.ofNat 32 (i 1).val) 1#32) 0#32)).toNat, (0#32).toNat, (BitVec.ofNat 32 (i 0).val).toNat]

/-- That index where the tenant has rows. -/
theorem delta_idx (i : grid0.Coords) (x y : BitVec 32) (h : Scalar.cmpi .sgt x y = 1#1) :
    deltaIdx i x y = ![(i 1).val, 0, (BitVec.ofNat 32 (i 0).val).toNat] := by
  unfold deltaIdx
  rw [tenant_word (i 1).val (i 1).isLt _ _ h]
  rfl

/-- The block index of the packed values. -/
theorem tr3 (i : grid0.Coords) :
   cc0_transform_3 k0_off1_inb numel1_S1 k0_off2_inb (tbl m) i = deltaIdx i ((tbl m).at 0 (Rect.unit (s := S8) (k0_off1 i) S1.size (k0_off1_inb i)) numel1_S1) ((tbl m).at 0 (Rect.unit (s := S8) (k0_off2 i) S1.size (k0_off2_inb i)) numel1_S1) := by
  unfold cc0_transform_3 deltaIdx
  dsimp only
  simp only [k0_off1, k0_off2]

/-- The block of packed values a point reads, where its tenant has rows. -/
theorem iblk3 (hO : Ok m) (c : Dev nD) (n : ℕ) (hn : n < 77) (h : Scalar.cmpi .sgt (wB m hO c n) (wA m hO c n) = 1#1)
    (k : Fin 512) (l : Fin 512) (t : Fin 7) (ht : t.val = n % 7) (q : Fin 5632) (hq : q.val = 512 * (n / 7) + l.val) :
    iblk m hO c 3 (pt m hO n) (ix3 0 k l) = V m c main_arg3 (ix3 t k q) := by
  have e : ((cfgM m hO).win 3).index (pt m hO n) = ![(grid0.coords (pt m hO n) 1).val, 0, (BitVec.ofNat 32 (grid0.coords (pt m hO n) 0).val).toNat] := by
    refine Eq.trans (show _ = cc0_transform_3 k0_off1_inb numel1_S1 k0_off2_inb (tbl m) (grid0.coords (pt m hO n)) from rfl) ?_
    rw [tr3, at1 m c, at2 m c]
    exact delta_idx _ _ _ h
  rw [(coord_words (pt m hO n)).1, (coord_words (pt m hO n)).2] at e
  have hp : (pt m hO n).val = n := Nat.mod_eq_of_lt hn
  rw [hp] at e
  blk_simp [iblk]
  refine congrArg (V m c main_arg3) (funext fun a => Fin.ext ?_)
  refine (Pipeline.Window.rect_emb_val ((cfgM m hO).win 3) (pt m hO n) (ix3 0 k l) a).trans ?_
  rw [e]
  fin_cases a
  · show n % 7 * 1 + 0 = t.val
    omega
  · exact (Nat.zero_add _)
  · show n / 7 * 512 + l.val = q.val
    omega

/-- The block index of the packed places. -/
theorem tr4 (i : grid0.Coords) :
   cc0_transform_4 k0_off1_inb numel1_S1 k0_off2_inb (tbl m) i = deltaIdx i ((tbl m).at 0 (Rect.unit (s := S8) (k0_off1 i) S1.size (k0_off1_inb i)) numel1_S1) ((tbl m).at 0 (Rect.unit (s := S8) (k0_off2 i) S1.size (k0_off2_inb i)) numel1_S1) := by
  unfold cc0_transform_4 deltaIdx
  dsimp only
  simp only [k0_off1, k0_off2]

/-- The block of packed places a point reads, where its tenant has rows. -/
theorem iblk4 (hO : Ok m) (c : Dev nD) (n : ℕ) (hn : n < 77) (h : Scalar.cmpi .sgt (wB m hO c n) (wA m hO c n) = 1#1)
    (k : Fin 256) (l : Fin 512) (t : Fin 7) (ht : t.val = n % 7) (q : Fin 5632) (hq : q.val = 512 * (n / 7) + l.val) :
    iblk m hO c 4 (pt m hO n) (ix3 0 k l) = V m c main_arg4 (ix3 t k q) := by
  have e : ((cfgM m hO).win 4).index (pt m hO n) = ![(grid0.coords (pt m hO n) 1).val, 0, (BitVec.ofNat 32 (grid0.coords (pt m hO n) 0).val).toNat] := by
    refine Eq.trans (show _ = cc0_transform_4 k0_off1_inb numel1_S1 k0_off2_inb (tbl m) (grid0.coords (pt m hO n)) from rfl) ?_
    rw [tr4, at1 m c, at2 m c]
    exact delta_idx _ _ _ h
  rw [(coord_words (pt m hO n)).1, (coord_words (pt m hO n)).2] at e
  have hp : (pt m hO n).val = n := Nat.mod_eq_of_lt hn
  rw [hp] at e
  blk_simp [iblk]
  refine congrArg (V m c main_arg4) (funext fun a => Fin.ext ?_)
  refine (Pipeline.Window.rect_emb_val ((cfgM m hO).win 4) (pt m hO n) (ix3 0 k l) a).trans ?_
  rw [e]
  fin_cases a
  · show n % 7 * 1 + 0 = t.val
    omega
  · exact (Nat.zero_add _)
  · show n / 7 * 512 + l.val = q.val
    omega

/-- The block index of the scales. -/
theorem tr5 (i : grid0.Coords) :
   cc0_transform_5 k0_off1_inb numel1_S1 k0_off2_inb (tbl m) i = deltaIdx i ((tbl m).at 0 (Rect.unit (s := S8) (k0_off1 i) S1.size (k0_off1_inb i)) numel1_S1) ((tbl m).at 0 (Rect.unit (s := S8) (k0_off2 i) S1.size (k0_off2_inb i)) numel1_S1) := by
  unfold cc0_transform_5 deltaIdx
  dsimp only
  simp only [k0_off1, k0_off2]

/-- The block of scales a point reads, where its tenant has rows. -/
theorem iblk5 (hO : Ok m) (c : Dev nD) (n : ℕ) (hn : n < 77) (h : Scalar.cmpi .sgt (wB m hO c n) (wA m hO c n) = 1#1)
    (k : Fin 16) (l : Fin 512) (t : Fin 7) (ht : t.val = n % 7) (q : Fin 5632) (hq : q.val = 512 * (n / 7) + l.val) :
    iblk m hO c 5 (pt m hO n) (ix3 0 k l) = V m c main_arg5 (ix3 t k q) := by
  have e : ((cfgM m hO).win 5).index (pt m hO n) = ![(grid0.coords (pt m hO n) 1).val, 0, (BitVec.ofNat 32 (grid0.coords (pt m hO n) 0).val).toNat] := by
    refine Eq.trans (show _ = cc0_transform_5 k0_off1_inb numel1_S1 k0_off2_inb (tbl m) (grid0.coords (pt m hO n)) from rfl) ?_
    rw [tr5, at1 m c, at2 m c]
    exact delta_idx _ _ _ h
  rw [(coord_words (pt m hO n)).1, (coord_words (pt m hO n)).2] at e
  have hp : (pt m hO n).val = n := Nat.mod_eq_of_lt hn
  rw [hp] at e
  blk_simp [iblk]
  refine congrArg (V m c main_arg5) (funext fun a => Fin.ext ?_)
  refine (Pipeline.Window.rect_emb_val ((cfgM m hO).win 5) (pt m hO n) (ix3 0 k l) a).trans ?_
  rw [e]
  fin_cases a
  · show n % 7 * 1 + 0 = t.val
    omega
  · exact (Nat.zero_add _)
  · show n / 7 * 512 + l.val = q.val
    omega

end Cert.KernelIdeal.Hand

end
-- ==== Proof.KernelIdeal.YArr.lean ====
/- The projection array the kernel leaves, from the blocks its columns leave. -/

module

public import proofs.«01_k».proof.Proof.KernelIdeal.Blocks
public import Idealize.ShloMosaic.Lib.Pipeline.Covers

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The projection, put together from the blocks of the columns. -/
def YALL (hO : Ok m) (c : Dev nD) : Vec F S128x5632 .bf16 :=
  fun i => YV m hO c (7 * ((i 1).val / 512) + 6) (ix2 (i 0 : Fin 128) (⟨(i 1).val % 512, Nat.mod_lt _ (by decide)⟩ : Fin 512))

/-- The projection, read at a column's block. -/
theorem yall_at (hO : Ok m) (c : Dev nD) (i : S128x5632.Idx) (n : ℕ) (h6 : n % 7 = 6) (r : Fin 128) (l : Fin 512) (h0 : (i 0).val = r.val) (h1 : (i 1).val = n / 7 * 512 + l.val) :
    YALL m hO c i = YV m hO c n (ix2 r l) := by
  unfold YALL
  have hl := l.isLt
  have hn : 7 * ((i 1).val / 512) + 6 = n := by omega
  rw [hn]
  refine congrArg (YV m hO c n) (funext fun a => Fin.ext ?_)
  fin_cases a
  · exact h0
  · show (i 1).val % 512 = l.val
    omega

/-- The blocks of the projection cover it. -/
theorem covers6 (hO : Ok m) : ((cfgM m hO).win 6).Covers := by
  refine Pipeline.Window.covers_of_index_surj _ rfl (by intro a; fin_cases a <;> first | exact (by decide : 0 < 128) | exact (by decide : 0 < 512)) fun β => ?_
  have n1 : ((cfgM m hO).win 6).nblk (1 : Fin 2) = 11 := by show (5632 + 512 - 1) / 512 = 11; rfl
  have n0 : ((cfgM m hO).win 6).nblk (0 : Fin 2) = 1 := by show (128 + 128 - 1) / 128 = 1; rfl
  have h1 : (β (1 : Fin 2)).val < 11 := lt_of_lt_of_eq (β (1 : Fin 2)).isLt n1
  have h0 : (β (0 : Fin 2)).val < 1 := lt_of_lt_of_eq (β (0 : Fin 2)).isLt n0
  refine ⟨pt m hO (7 * (β (1 : Fin 2)).val), fun a => ?_⟩
  have hc := (coord_words (pt m hO (7 * (β (1 : Fin 2)).val))).1
  fin_cases a
  · show 0 = (β (0 : Fin 2)).val
    omega
  · show (BitVec.ofNat 32 (grid0.coords (pt m hO (7 * (β (1 : Fin 2)).val)) 0).val).toNat = (β (1 : Fin 2)).val
    rw [hc]
    show (7 * (β (1 : Fin 2)).val) % 77 / 7 = _
    omega

/-- The projection the kernel leaves. -/
theorem y_arr (hO : Ok m) (c : Dev nD) : (tdats m hO 0 c).arrAt 6 (cfgM m hO).N = YALL m hO c := by
  refine (tdats m hO 0 c).arrAt_eq_of_covers 6 _ (covers6 m hO) fun t hf y => ?_
  have h6 := (flush0_6 (adm m hO) t).mp hf
  have h77 := lt77 m hO t
  rw [tafter0_6]
  have e1 : ((((cfgM m hO).win 6).blk t).view.emb y (1 : Fin 2)).val = (t.val / 7) * 512 + (y (1 : Fin 2)).val := by
    refine (Pipeline.Window.rect_emb_val ((cfgM m hO).win 6) t y (1 : Fin 2)).trans ?_
    have hc := (coord_words t).1
    show (BitVec.ofNat 32 (grid0.coords t 0).val).toNat * 512 + _ = _
    rw [hc]
  have e0 : ((((cfgM m hO).win 6).blk t).view.emb y (0 : Fin 2)).val = (y (0 : Fin 2)).val := by
    refine (Pipeline.Window.rect_emb_val ((cfgM m hO).win 6) t y (0 : Fin 2)).trans ?_
    show 0 * 128 + _ = _
    omega
  have hy1 : (y (1 : Fin 2)).val < 512 := (y (1 : Fin 2)).isLt
  refine Eq.trans ?_ (yall_at m hO c (((cfgM m hO).win 6).blk t |>.view.emb y) t.val h6 ⟨(y (0 : Fin 2)).val, (y (0 : Fin 2)).isLt⟩ ⟨(y (1 : Fin 2)).val, hy1⟩ e0 e1).symm
  blk_simp
  refine congrArg (YV m hO c t.val) (funext fun a => Fin.ext ?_)
  fin_cases a <;> rfl

/-- Point `n`'s product, in one step from the one before. -/
theorem acc_next (hO : Ok m) (c : Dev nD) (n : ℕ) : ACC m hO c (n + 1) = addAt m hO c (n + 1) (if (n + 1) % 7 = 0 then k0_pay4 else ACC m hO c n) := rfl

/-- The same inside a column. -/
theorem acc_succ (hO : Ok m) (c : Dev nD) (n : ℕ) (h : ¬ (n + 1) % 7 = 0) : ACC m hO c (n + 1) = addAt m hO c (n + 1) (ACC m hO c n) := by
  rw [acc_next, if_neg h]

/-- The first product of a column. -/
theorem acc_first (hO : Ok m) (c : Dev nD) : ∀ (n : ℕ), n % 7 = 0 → ACC m hO c n = addAt m hO c n k0_pay4
  | 0, _ => rfl
  | n + 1, h => by rw [acc_next, if_pos h]

/-- The base product after a point. -/
theorem base_next (hO : Ok m) (c : Dev nD) (n : ℕ) :
    BASE m hO c (n + 1) = if (n + 1) % 7 = 0 then k0_pay3 (CODES m hO c) (iblk m hO c 1 (pt m hO (n + 1))) else BASE m hO c n := rfl

/-- The base product at the first point of a column. -/
theorem base_first (hO : Ok m) (c : Dev nD) : ∀ (n : ℕ), n % 7 = 0 → BASE m hO c n = k0_pay3 (CODES m hO c) (iblk m hO c 1 (pt m hO n))
  | 0, _ => rfl
  | n + 1, h => by rw [base_next, if_pos h]

/-- The base product of a column, at each of its points. -/
theorem base_col (hO : Ok m) (c : Dev nD) (nb : ℕ) : ∀ j, j < 7 →
    BASE m hO c (7 * nb + j) = k0_pay3 (CODES m hO c) (iblk m hO c 1 (pt m hO (7 * nb)))
  | 0, _ => base_first m hO c (7 * nb) (by omega)
  | j + 1, h => by
    refine (base_next m hO c (7 * nb + j)).trans ?_
    rw [if_neg (by omega)]
    exact base_col hO c nb j (by omega)

end Cert.KernelIdeal.Hand

end
-- ==== Proof.Nibble.lean ====
module

public import Idealize.ShloMosaic.Lib.Pointwise
public import Idealize.ShloMosaic.Lib.BitcastFour

/-!
Nibbles of words: how the eight four-bit fields of a thirty-two bit word behave under the bitwise operations, and the
masks, sums and views of bytes that build such words.
-/

@[expose] public section

set_option maxRecDepth 16384

noncomputable section

namespace Cert.Nibble

open Idealize.ShloMosaic Idealize.ShloMosaic.TcCoe Idealize.ShloMosaic.ValueIdx

/-- Four-bit field `j` of a word. -/
def nib (w : BitVec 32) (j : ℕ) : BitVec 4 := w.extractLsb' (4 * j) 4

/-- Shifting a word down by four times `j` and keeping four bits reads its field `j`. -/
theorem nib_eq (w : BitVec 32) (j : Fin 8) :
    BitVec.setWidth 4 (IntOp.shrui .vector w (IntOp.shli .vector (BitVec.ofNat 32 j.val) 2#32)) = nib w j.val := by
  have h1 : ∀ j : Fin 8, IntOp.shli .vector (BitVec.ofNat 32 j.val) 2#32 = BitVec.ofNat 32 (4 * j.val) := by
    decide +kernel
  rw [h1]
  have h2 : (BitVec.ofNat 32 (4 * j.val)).toNat = 4 * j.val := by
    rw [BitVec.toNat_ofNat]; omega
  unfold IntOp.shrui
  rw [h2, if_pos (by omega)]
  apply BitVec.eq_of_getLsbD_eq
  intro i hi
  simp only [nib, BitVec.getLsbD_setWidth, BitVec.ushiftRight_eq', BitVec.getLsbD_ushiftRight, h2,
    BitVec.getLsbD_extractLsb', hi, decide_true]

/-- Fields of a conjunction. -/
theorem nib_and (a b : BitVec 32) (j : ℕ) : nib (IntOp.andi a b) j = nib a j &&& nib b j := by
  apply BitVec.eq_of_getLsbD_eq
  intro i hi
  simp only [nib, IntOp.andi, BitVec.getLsbD_extractLsb', BitVec.getLsbD_and, hi, decide_true, Bool.true_and]

/-- Fields of a disjunction. -/
theorem nib_or (a b : BitVec 32) (j : ℕ) : nib (IntOp.ori a b) j = nib a j ||| nib b j := by
  apply BitVec.eq_of_getLsbD_eq
  intro i hi
  simp only [nib, IntOp.ori, BitVec.getLsbD_extractLsb', BitVec.getLsbD_or, hi, decide_true, Bool.true_and]

/-- Fields of an exclusive disjunction. -/
theorem nib_xor (a b : BitVec 32) (j : ℕ) : nib (IntOp.xori a b) j = nib a j ^^^ nib b j := by
  apply BitVec.eq_of_getLsbD_eq
  intro i hi
  simp only [nib, IntOp.xori, BitVec.getLsbD_extractLsb', BitVec.getLsbD_xor, hi, decide_true, Bool.true_and]

/-- The word whose fields are zero or one, as eight bits say. -/
def spread (b0 b1 b2 b3 b4 b5 b6 b7 : Bool) : BitVec 32 :=
  (BitVec.ofBool b0).setWidth 32 ||| (BitVec.ofBool b1).setWidth 32 <<< 4 ||| (BitVec.ofBool b2).setWidth 32 <<< 8
    ||| (BitVec.ofBool b3).setWidth 32 <<< 12 ||| (BitVec.ofBool b4).setWidth 32 <<< 16
    ||| (BitVec.ofBool b5).setWidth 32 <<< 20 ||| (BitVec.ofBool b6).setWidth 32 <<< 24
    ||| (BitVec.ofBool b7).setWidth 32 <<< 28

/-- A word masked to the lowest bit of every field is the spread of those bits. -/
theorem and_spread (x : BitVec 32) : IntOp.andi x 286331153#32
    = spread (x.getLsbD 0) (x.getLsbD 4) (x.getLsbD 8) (x.getLsbD 12) (x.getLsbD 16) (x.getLsbD 20) (x.getLsbD 24)
        (x.getLsbD 28) := by
  apply BitVec.eq_of_getLsbD_eq
  intro i hi
  simp only [IntOp.andi, spread, BitVec.getLsbD_and, BitVec.getLsbD_or, BitVec.getLsbD_shiftLeft,
    BitVec.getLsbD_setWidth, BitVec.getLsbD_ofBool]
  interval_cases i <;> simp

/-- Sixteen times a spread less the spread fills every field whose bit is set. -/
theorem fill_spread : ∀ b0 b1 b2 b3 b4 b5 b6 b7 : Bool, ∀ j : Fin 8,
    nib (IntOp.subi (IntOp.shli .vector (spread b0 b1 b2 b3 b4 b5 b6 b7) 4#32) (spread b0 b1 b2 b3 b4 b5 b6 b7)) j.val
      = if ![b0, b1, b2, b3, b4, b5, b6, b7] j then 15#4 else 0#4 := by
  decide +kernel

/-- The mask a word's lowest field bits make: all ones in the fields whose lowest bit is set. -/
theorem nib_fill (x : BitVec 32) (j : Fin 8) :
    nib (IntOp.subi (IntOp.shli .vector (IntOp.andi x 286331153#32) 4#32) (IntOp.andi x 286331153#32)) j.val
      = if (nib x j.val).getLsbD 0 then 15#4 else 0#4 := by
  rw [and_spread, fill_spread]
  congr 1
  simp only [nib, BitVec.getLsbD_extractLsb']
  match j with
  | 0 | 1 | 2 | 3 | 4 | 5 | 6 | 7 => simp

/-- The lowest bit of a field after a shift by less than four is that bit of the field. -/
theorem nib_shr (x : BitVec 32) (j : ℕ) (s : ℕ) (hs : s < 4) :
    (nib (IntOp.shrui .vector x (BitVec.ofNat 32 s)) j).getLsbD 0 = (nib x j).getLsbD s := by
  have h2 : (BitVec.ofNat 32 s).toNat = s := by
    rw [BitVec.toNat_ofNat]; omega
  unfold IntOp.shrui
  rw [h2, if_pos (by omega)]
  simp only [nib, BitVec.getLsbD_extractLsb', BitVec.ushiftRight_eq', BitVec.getLsbD_ushiftRight, h2, hs, decide_true,
    Bool.true_and]
  simp [Nat.add_comm]

/-- A hexadecimal digit of a number. -/
theorem digit (v : Fin 8 → ℕ) (hv : ∀ k, v k < 16) (j : Fin 8) :
    (v 0 + 16 * (v 1 + 16 * (v 2 + 16 * (v 3 + 16 * (v 4 + 16 * (v 5 + 16 * (v 6 + 16 * v 7))))))) / 16 ^ j.val % 16 = v j := by
  have key : ∀ P a x b : ℕ, a < P → x < 16 → (a + P * (x + 16 * b)) / P % 16 = x := by
    intro P a x b ha hx
    rw [Nat.add_mul_div_left _ _ (by omega), Nat.div_eq_of_lt ha]
    omega
  have := hv 0; have := hv 1; have := hv 2; have := hv 3
  have := hv 4; have := hv 5; have := hv 6; have := hv 7
  match j with
  | 0 =>
    have he : v 0 + 16 * (v 1 + 16 * (v 2 + 16 * (v 3 + 16 * (v 4 + 16 * (v 5 + 16 * (v 6 + 16 * v 7)))))) = 0 + 1 * (v 0 + 16 * (v 1 + 16 * (v 2 + 16 * (v 3 + 16 * (v 4 + 16 * (v 5 + 16 * (v 6 + 16 * v 7))))))) := by omega
    rw [he]
    exact key 1 _ (v 0) _ (by omega) (hv 0)
  | 1 =>
    have he : v 0 + 16 * (v 1 + 16 * (v 2 + 16 * (v 3 + 16 * (v 4 + 16 * (v 5 + 16 * (v 6 + 16 * v 7)))))) = v 0 + 16 * (v 1 + 16 * (v 2 + 16 * (v 3 + 16 * (v 4 + 16 * (v 5 + 16 * (v 6 + 16 * v 7)))))) := by omega
    rw [he]
    exact key 16 _ (v 1) _ (by omega) (hv 1)
  | 2 =>
    have he : v 0 + 16 * (v 1 + 16 * (v 2 + 16 * (v 3 + 16 * (v 4 + 16 * (v 5 + 16 * (v 6 + 16 * v 7)))))) = (v 0 + 16 * v 1) + 256 * (v 2 + 16 * (v 3 + 16 * (v 4 + 16 * (v 5 + 16 * (v 6 + 16 * v 7))))) := by omega
    rw [he]
    exact key 256 _ (v 2) _ (by omega) (hv 2)
  | 3 =>
    have he : v 0 + 16 * (v 1 + 16 * (v 2 + 16 * (v 3 + 16 * (v 4 + 16 * (v 5 + 16 * (v 6 + 16 * v 7)))))) = (v 0 + 16 * (v 1 + 16 * v 2)) + 4096 * (v 3 + 16 * (v 4 + 16 * (v 5 + 16 * (v 6 + 16 * v 7)))) := by omega
    rw [he]
    exact key 4096 _ (v 3) _ (by omega) (hv 3)
  | 4 =>
    have he : v 0 + 16 * (v 1 + 16 * (v 2 + 16 * (v 3 + 16 * (v 4 + 16 * (v 5 + 16 * (v 6 + 16 * v 7)))))) = (v 0 + 16 * (v 1 + 16 * (v 2 + 16 * v 3))) + 65536 * (v 4 + 16 * (v 5 + 16 * (v 6 + 16 * v 7))) := by omega
    rw [he]
    exact key 65536 _ (v 4) _ (by omega) (hv 4)
  | 5 =>
    have he : v 0 + 16 * (v 1 + 16 * (v 2 + 16 * (v 3 + 16 * (v 4 + 16 * (v 5 + 16 * (v 6 + 16 * v 7)))))) = (v 0 + 16 * (v 1 + 16 * (v 2 + 16 * (v 3 + 16 * v 4)))) + 1048576 * (v 5 + 16 * (v 6 + 16 * v 7)) := by omega
    rw [he]
    exact key 1048576 _ (v 5) _ (by omega) (hv 5)
  | 6 =>
    have he : v 0 + 16 * (v 1 + 16 * (v 2 + 16 * (v 3 + 16 * (v 4 + 16 * (v 5 + 16 * (v 6 + 16 * v 7)))))) = (v 0 + 16 * (v 1 + 16 * (v 2 + 16 * (v 3 + 16 * (v 4 + 16 * v 5))))) + 16777216 * (v 6 + 16 * v 7) := by omega
    rw [he]
    exact key 16777216 _ (v 6) _ (by omega) (hv 6)
  | 7 =>
    have he : v 0 + 16 * (v 1 + 16 * (v 2 + 16 * (v 3 + 16 * (v 4 + 16 * (v 5 + 16 * (v 6 + 16 * v 7)))))) = (v 0 + 16 * (v 1 + 16 * (v 2 + 16 * (v 3 + 16 * (v 4 + 16 * (v 5 + 16 * v 6)))))) + 268435456 * (v 7 + 16 * 0) := by omega
    rw [he]
    exact key 268435456 _ (v 7) _ (by omega) (hv 7)

/-- The eight nibbles joined by shifts and sums into a word are its fields. -/
theorem nib_join (q : Fin 8 → BitVec 4) (j : Fin 8) :
    nib (Finset.fold IntOp.addi (0#32) (fun k : Fin 8 =>
      IntOp.shli .vector (IntOp.andi (BitVec.signExtend 32 (q k)) 15#32) (IntOp.shli .vector (BitVec.ofNat 32 k.val) 2#32))
      Finset.univ) j.val = q j := by
  have ht : ∀ (v : BitVec 4) (k : Fin 8), IntOp.shli .vector (IntOp.andi (BitVec.signExtend 32 v) 15#32)
      (IntOp.shli .vector (BitVec.ofNat 32 k.val) 2#32) = BitVec.ofNat 32 (v.toNat * 16 ^ k.val) := by
    decide +kernel
  simp only [ht]
  have hf : ∀ f : Fin 8 → BitVec 32, Finset.fold IntOp.addi (0#32) f Finset.univ
      = f 0 + (f 1 + (f 2 + (f 3 + (f 4 + (f 5 + (f 6 + (f 7 + 0#32))))))) := fun f => rfl
  rw [hf]
  have hq : ∀ k, (q k).toNat < 16 := fun k => (q k).isLt
  have hS : ∀ (v : Fin 8 → ℕ), BitVec.ofNat 32 (v 0 * 16 ^ 0) + (BitVec.ofNat 32 (v 1 * 16 ^ 1) + (BitVec.ofNat 32 (v 2 * 16 ^ 2)
      + (BitVec.ofNat 32 (v 3 * 16 ^ 3) + (BitVec.ofNat 32 (v 4 * 16 ^ 4) + (BitVec.ofNat 32 (v 5 * 16 ^ 5) + (BitVec.ofNat 32 (v 6 * 16 ^ 6)
      + (BitVec.ofNat 32 (v 7 * 16 ^ 7) + 0#32)))))))
      = BitVec.ofNat 32 (v 0 + 16 * (v 1 + 16 * (v 2 + 16 * (v 3 + 16 * (v 4 + 16 * (v 5 + 16 * (v 6 + 16 * v 7))))))) := by
    intro v
    rw [BitVec.add_zero]
    simp only [← BitVec.ofNat_add]
    congr 1
    ring
  refine (congrArg (fun w => nib w j.val) (hS fun k => (q k).toNat)).trans ?_
  have h0 := hq 0; have h1 := hq 1; have h2 := hq 2; have h3 := hq 3
  have h4 := hq 4; have h5 := hq 5; have h6 := hq 6; have h7 := hq 7
  apply BitVec.eq_of_toNat_eq
  have hd : ∀ j, j ≤ 7 → ∀ v : Fin 8 → ℕ, (∀ k, v k < 16) →
      (nib (BitVec.ofNat 32 (v 0 + 16 * (v 1 + 16 * (v 2 + 16 * (v 3 + 16 * (v 4 + 16 * (v 5 + 16 * (v 6 + 16 * v 7)))))))) j).toNat
        = (v 0 + 16 * (v 1 + 16 * (v 2 + 16 * (v 3 + 16 * (v 4 + 16 * (v 5 + 16 * (v 6 + 16 * v 7))))))) / 16 ^ j % 16 := by
    intro j hj v hv
    have := hv 0; have := hv 1; have := hv 2; have := hv 3
    have := hv 4; have := hv 5; have := hv 6; have := hv 7
    rw [nib, BitVec.extractLsb'_toNat, BitVec.toNat_ofNat]
    rw [Nat.mod_eq_of_lt (a := v 0 + 16 * (v 1 + 16 * (v 2 + 16 * (v 3 + 16 * (v 4 + 16 * (v 5 + 16 * (v 6 + 16 * v 7))))))) (b := 2 ^ 32) (by omega)]
    rw [Nat.shiftRight_eq_div_pow, Nat.pow_mul]
  refine (hd j.val (by omega) (fun k => (q k).toNat) hq).trans ?_
  exact digit (fun k => (q k).toNat) hq j

/-- The low nibble of a byte. -/
def lo4 (v : BitVec 8) : BitVec 4 := v.setWidth 4
/-- The high nibble of a byte. -/
def hi4 (v : BitVec 8) : BitVec 4 := v.extractLsb' 4 4

/-- The two signed nibbles of byte `v` that the two places of byte `w`'s nibble at row `k` put at place `k % 4`. -/
def entry (v w : BitVec 8) (k : ℕ) : ℤ :=
  (if (w >>> (4 * (k / 4 % 2))) &&& 3#8 = BitVec.ofNat 8 (k % 4) then (lo4 v).toInt else 0)
    + (if (w >>> (4 * (k / 4 % 2) + 2)) &&& 3#8 = BitVec.ofNat 8 (k % 4) then (hi4 v).toInt else 0)

/-- The fields one mask bit selects. -/
def keep (b : Bool) : BitVec 4 := if b then 15#4 else 0#4

/-- Quarter 0 of one nibble pair. -/
def quad0 (L H N : BitVec 4) : BitVec 4 :=
  ((L ^^^ (L &&& keep (N.getLsbD 1))) ^^^ ((L ^^^ (L &&& keep (N.getLsbD 1))) &&& keep (N.getLsbD 0)))
    ||| ((H ^^^ (H &&& keep (N.getLsbD 3))) ^^^ ((H ^^^ (H &&& keep (N.getLsbD 3))) &&& keep (N.getLsbD 2)))
/-- Quarter 1 of one nibble pair. -/
def quad1 (L H N : BitVec 4) : BitVec 4 :=
  ((L ^^^ (L &&& keep (N.getLsbD 1))) &&& keep (N.getLsbD 0))
    ||| ((H ^^^ (H &&& keep (N.getLsbD 3))) &&& keep (N.getLsbD 2))
/-- Quarter 2 of one nibble pair. -/
def quad2 (L H N : BitVec 4) : BitVec 4 :=
  ((L &&& keep (N.getLsbD 1)) ^^^ ((L &&& keep (N.getLsbD 1)) &&& keep (N.getLsbD 0)))
    ||| ((H &&& keep (N.getLsbD 3)) ^^^ ((H &&& keep (N.getLsbD 3)) &&& keep (N.getLsbD 2)))
/-- Quarter 3 of one nibble pair. -/
def quad3 (L H N : BitVec 4) : BitVec 4 :=
  ((L &&& keep (N.getLsbD 1)) &&& keep (N.getLsbD 0)) ||| ((H &&& keep (N.getLsbD 3)) &&& keep (N.getLsbD 2))

/-- Quarter `p` of one nibble pair. -/
def quad (p : Fin 4) : BitVec 4 → BitVec 4 → BitVec 4 → BitVec 4 := ![quad0, quad1, quad2, quad3] p

/-- With the two places distinct, quarter `p` holds the nibble whose place is `p`, or zero. -/
theorem quad_toInt : ∀ (p : Fin 4) (N L H : BitVec 4), N &&& 3#4 ≠ N >>> 2 → (quad p L H N).toInt
    = (if N &&& 3#4 = BitVec.ofNat 4 p.val then L.toInt else 0) + (if N >>> 2 = BitVec.ofNat 4 p.val then H.toInt else 0) := by
  decide +kernel

/-- Nibble `e` of a byte. -/
def nibOf (w : BitVec 8) (e : ℕ) : BitVec 4 := w.extractLsb' (4 * e) 4

/-- Both nibbles of a byte of places hold distinct places. -/
def Distinct (w : BitVec 8) : Prop := ∀ e : Fin 2, nibOf w e.val &&& 3#4 ≠ nibOf w e.val >>> 2
/-- Distinct places are decidable. -/
instance (w : BitVec 8) : Decidable (Distinct w) := by unfold Distinct; infer_instance

/-- The places of a nibble, as the nibble or as the byte gives them. -/
theorem place_eq : ∀ (w : BitVec 8) (k : Fin 8),
    ((nibOf w (k.val / 4 % 2) &&& 3#4 = BitVec.ofNat 4 (k.val % 4))
        ↔ (w >>> (4 * (k.val / 4 % 2))) &&& 3#8 = BitVec.ofNat 8 (k.val % 4))
      ∧ ((nibOf w (k.val / 4 % 2) >>> 2 = BitVec.ofNat 4 (k.val % 4))
        ↔ (w >>> (4 * (k.val / 4 % 2) + 2)) &&& 3#8 = BitVec.ofNat 8 (k.val % 4)) := by
  decide +kernel

/-- The kernel's quarter of a byte and its places is the entry. -/
theorem quad_entry (v w : BitVec 8) (k : ℕ) (p : Fin 4) (hp : p.val = k % 4) (hw : Distinct w) :
    (quad p (lo4 v) (hi4 v) (nibOf w (k / 4 % 2))).toInt = entry v w k := by
  have hk := place_eq w ⟨k % 8, by omega⟩
  have e1 : k % 8 / 4 % 2 = k / 4 % 2 := by omega
  have e2 : k % 8 % 4 = k % 4 := by omega
  simp only [e1, e2] at hk
  rw [quad_toInt p _ _ _ (hw ⟨k / 4 % 2, by omega⟩), hp]
  unfold entry
  congr 1
  · by_cases h : nibOf w (k / 4 % 2) &&& 3#4 = BitVec.ofNat 4 (k % 4)
    · rw [if_pos h, if_pos (hk.1.1 h)]
    · rw [if_neg h, if_neg (fun h' => h (hk.1.2 h'))]
  · by_cases h : nibOf w (k / 4 % 2) >>> 2 = BitVec.ofNat 4 (k % 4)
    · rw [if_pos h, if_pos (hk.2.1 h)]
    · rw [if_neg h, if_neg (fun h' => h (hk.2.2 h'))]

/-- The low nibble's sign, taken in thirty-two bits. -/
theorem lo_sign : ∀ v : BitVec 8,
    (Scalar.select (IntOp.cmpi .sge (IntOp.andi (BitVec.setWidth 32 v) 15#32) 8#32)
      (IntOp.subi (IntOp.andi (BitVec.setWidth 32 v) 15#32) 16#32) (IntOp.andi (BitVec.setWidth 32 v) 15#32)).toInt
      = (lo4 v).toInt := by
  decide +kernel

/-- The high nibble's sign, taken in thirty-two bits. -/
theorem hi_sign : ∀ v : BitVec 8,
    (Scalar.select (IntOp.cmpi .sge (IntOp.shrsi .vector (BitVec.setWidth 32 v) 4#32) 8#32)
      (IntOp.subi (IntOp.shrsi .vector (BitVec.setWidth 32 v) 4#32) 16#32)
      (IntOp.shrsi .vector (BitVec.setWidth 32 v) 4#32)).toInt = (hi4 v).toInt := by
  decide +kernel

/-- The test of the first place, in thirty-two bits. -/
theorem place0 : ∀ (w : BitVec 8) (k : Fin 8),
    IntOp.cmpi .eq (IntOp.andi (IntOp.shrsi .vector (BitVec.setWidth 32 w) (IntOp.andi (BitVec.ofNat 32 k.val) 4#32)) 3#32)
      (IntOp.andi (BitVec.ofNat 32 k.val) 3#32)
      = BitVec.ofBool (decide ((w >>> (4 * (k.val / 4 % 2))) &&& 3#8 = BitVec.ofNat 8 (k.val % 4))) := by
  decide +kernel

/-- The test of the second place, in thirty-two bits. -/
theorem place1 : ∀ (w : BitVec 8) (k : Fin 8),
    IntOp.cmpi .eq (IntOp.andi (IntOp.shrsi .vector (IntOp.shrsi .vector (BitVec.setWidth 32 w)
      (IntOp.andi (BitVec.ofNat 32 k.val) 4#32)) 2#32) 3#32) (IntOp.andi (BitVec.ofNat 32 k.val) 3#32)
      = BitVec.ofBool (decide ((w >>> (4 * (k.val / 4 % 2) + 2)) &&& 3#8 = BitVec.ofNat 8 (k.val % 4))) := by
  decide +kernel

/-- A row's low bits depend on the row modulo eight. -/
theorem row_and (k : ℕ) : IntOp.andi (BitVec.ofNat 32 k) 4#32 = IntOp.andi (BitVec.ofNat 32 (k % 8)) 4#32
    ∧ IntOp.andi (BitVec.ofNat 32 k) 3#32 = IntOp.andi (BitVec.ofNat 32 (k % 8)) 3#32 := by
  constructor <;>
  · apply BitVec.eq_of_toNat_eq
    simp only [IntOp.andi, BitVec.toNat_and, BitVec.toNat_ofNat]
    rw [show k % 2 ^ 32 = 8 * (k % 2 ^ 32 / 8) + k % 8 by omega, show k % 8 % 2 ^ 32 = k % 8 by omega]
    apply Nat.eq_of_testBit_eq
    intro i
    rw [Nat.testBit_and, Nat.testBit_and]
    by_cases hi : i < 3
    · rw [Nat.testBit_two_pow_mul_add (i := 3) _ (by omega), if_pos hi]
    · have : ∀ n < 8, Nat.testBit n i = false := fun n hn =>
        Nat.testBit_lt_two_pow (lt_of_lt_of_le hn (Nat.pow_le_pow_right (n := 2) (by decide) (show 3 ≤ i by omega)))
      simp only [this 4 (by omega), this 3 (by omega), BitVec.toNat_ofNat, Bool.and_false]

/-- A sum of two selected signed nibbles, as the reference forms it, is the entry. -/
theorem entry_sum (v w : BitVec 8) (k : ℕ) :
    ((Scalar.select (IntOp.cmpi .eq (IntOp.andi (IntOp.shrsi .vector (BitVec.setWidth 32 w)
          (IntOp.andi (BitVec.ofNat 32 k) 4#32)) 3#32) (IntOp.andi (BitVec.ofNat 32 k) 3#32))
        (FloatOps.sitofp (F := Ideal) .bf16 (Scalar.select (IntOp.cmpi .sge (IntOp.andi (BitVec.setWidth 32 v) 15#32) 8#32)
          (IntOp.subi (IntOp.andi (BitVec.setWidth 32 v) 15#32) 16#32) (IntOp.andi (BitVec.setWidth 32 v) 15#32))) 0
      + Scalar.select (IntOp.cmpi .eq (IntOp.andi (IntOp.shrsi .vector (IntOp.shrsi .vector (BitVec.setWidth 32 w)
          (IntOp.andi (BitVec.ofNat 32 k) 4#32)) 2#32) 3#32) (IntOp.andi (BitVec.ofNat 32 k) 3#32))
        (FloatOps.sitofp (F := Ideal) .bf16 (Scalar.select (IntOp.cmpi .sge (IntOp.shrsi .vector (BitVec.setWidth 32 v) 4#32) 8#32)
          (IntOp.subi (IntOp.shrsi .vector (BitVec.setWidth 32 v) 4#32) 16#32)
          (IntOp.shrsi .vector (BitVec.setWidth 32 v) 4#32))) 0 : EReal))
      = (((entry v w k : ℤ) : ℝ) : EReal) := by
  have e1 : k % 8 / 4 % 2 = k / 4 % 2 := by omega
  have e2 : k % 8 % 4 = k % 4 := by omega
  have p0 := place0 w ⟨k % 8, by omega⟩
  have p1 := place1 w ⟨k % 8, by omega⟩
  simp only [e1, e2] at p0 p1
  rw [(row_and k).1, (row_and k).2, p0, p1]
  have hs : ∀ {n : ℕ} (b : BitVec n), (FloatOps.sitofp (F := Ideal) .bf16 b : EReal) = ((b.toInt : ℝ) : EReal) := fun b => rfl
  rw [hs, hs, lo_sign, hi_sign]
  unfold entry
  have hsel : ∀ (P : Prop) [Decidable P] (z : ℤ), Scalar.select (BitVec.ofBool (decide P)) (((z : ℝ) : EReal)) 0
      = ((((if P then z else 0 : ℤ)) : ℝ) : EReal) := by
    intro P _ z
    by_cases h : P <;> simp [h, Scalar.select]
  rw [hsel, hsel, ← EReal.coe_add]
  congr 1
  push_cast
  rfl

end Cert.Nibble

end
-- ==== Proof.KernelIdeal.DenseAt.lean ====
/- What one entry of the dense block is: a packed nibble where the packed places say, times its scale. -/

module

public import proofs.«01_k».proof.Proof.KernelIdeal.Expand
public import proofs.«01_k».proof.Proof.Nibble

@[expose] public section

set_option maxRecDepth 16384

noncomputable section

namespace Cert.KernelIdeal.Hand

open Cert.KernelIdeal Cert.KernelIdeal.Gen Idealize.ShloMosaic Idealize.ShloMosaic.TcCoe Idealize.SL.Sem Cert.Nibble

/-- A low nibble of the word that joins eight low nibbles. -/
theorem lo_nib (v : Vec Ideal S1x64x512 .i8) (R j : Fin 8) (l : Fin 512) (k : Fin 64) (hk : k.val = R.val * 8 + j.val) :
    nib (k0_pay28 v (ix2 R l)) j.val = lo4 (v (ix3 0 k l)) := by
  rw [show k = (⟨R.val * 8 + j.val, by clear hk; omega⟩ : Fin 64) from Fin.ext hk]
  pointwise [k0_pay28, k0_pay27]
  exact nib_join (fun x : Fin 8 => BitVec.setWidth 4 (v (ix3 0 ⟨R.val * 8 + x.val, by omega⟩ l))) j

/-- Bytes read as words, shifted by four and read as bytes again: the low nibble is the byte's high one. -/
theorem hi_byte (x : S64x512.Idx → BitVec 8) (h : S64x512.Bitcasts 8 S16x512 32) (h' : S16x512.Bitcasts 32 S64x512 8) (k : Fin 64) (l : Fin 512) :
    BitVec.setWidth 4 (bitcast S64x512 8 (shrui (bitcast S16x512 32 x h) (broadcast S16x512 4#32)) h' (ix2 k l)) = hi4 (x (ix2 k l)) := by
  apply BitVec.eq_of_getLsbD_eq
  intro i hi
  have hrow : S64x512.row (ix2 k l) = k.val := rfl
  rw [BitVec.getLsbD_setWidth, bitcast_getLsbD _ h' _ i (by omega) (by decide)]
  have hs : ∀ hp, h'.srcIdx (ix2 k l) ((S64x512.row (ix2 k l) * 8 + i) / 32) hp = ix2 ⟨k.val / 4, by omega⟩ l := by
    intro hp
    funext c
    match c with
    | ⟨0, _⟩ => exact Fin.ext ((h'.srcIdx_row _ _ _ ⟨0, Nat.zero_lt_two⟩ rfl).trans (by rw [hrow]; show (k.val * 8 + i) / 32 = k.val / 4; omega))
    | ⟨1, _⟩ => exact Fin.ext (h'.srcIdx_other _ _ _ ⟨1, Nat.one_lt_two⟩ (by show ¬ 1 + 2 = 2; omega))
  rw [hs]
  have hsh : ∀ y : S16x512.Idx, shrui (bitcast S16x512 32 x h) (broadcast S16x512 4#32) y = (bitcast S16x512 32 x h y) >>> 4 := by
    intro y
    show IntOp.shrui .vector _ 4#32 = _
    rfl
  rw [hsh, BitVec.getLsbD_ushiftRight, hrow]
  have hb := bitcast_8_32_getLsbD_ix2 x h ⟨k.val / 4, by omega⟩ l (4 + (k.val * 8 + i) % 32) (by omega) k (by show k.val = 4 * (k.val / 4) + _; omega)
  simp only [hi4, BitVec.getLsbD_extractLsb', hi, decide_true, Bool.true_and]
  refine hb.trans ?_
  refine congrArg (fun n => BitVec.getLsbD (x (ix2 k l)) n) ?_
  omega

/-- A high nibble of the word that joins eight high nibbles. -/
theorem hi_nib (v : Vec Ideal S1x64x512 .i8) (R j : Fin 8) (l : Fin 512) (k : Fin 64) (hk : k.val = R.val * 8 + j.val) :
    nib (k0_pay29 v (ix2 R l)) j.val = hi4 (v (ix3 0 k l)) := by
  rw [show k = (⟨R.val * 8 + j.val, by clear hk; omega⟩ : Fin 64) from Fin.ext hk]
  have hb := fun k : Fin 64 => hi_byte (shapeCast S64x512 v shapeCasts_S1x64x512_S64x512) bitcasts_S64x512_w8_S16x512_w32 bitcasts_S16x512_w32_S64x512_w8 k l
  have hv : ∀ k : Fin 64, shapeCast S64x512 v shapeCasts_S1x64x512_S64x512 (ix2 k l) = v (ix3 0 k l) := by
    intro k
    pointwise []
  pointwise [k0_pay29, k0_pay27]
  refine (nib_join (fun x : Fin 8 => BitVec.setWidth 4 (bitcast S64x512 8 (shrui (bitcast S16x512 32 (shapeCast S64x512 v shapeCasts_S1x64x512_S64x512)
    bitcasts_S64x512_w8_S16x512_w32) (broadcast S16x512 4#32)) bitcasts_S16x512_w32_S64x512_w8 (ix2 ⟨R.val * 8 + x.val, by omega⟩ l))) j).trans ?_
  exact (hb _).trans (congrArg hi4 (hv _))

/-- A nibble of the word four bytes of places make. -/
theorem bits_nib (w : Vec Ideal S1x32x512 .i8) (R j : Fin 8) (l : Fin 512) (k : Fin 32) (hk : k.val = 4 * R.val + j.val / 2) :
    nib (k0_pay30 w (ix2 R l)) j.val = nibOf (w (ix3 0 k l)) (j.val % 2) := by
  have hv : shapeCast S32x512 w shapeCasts_S1x32x512_S32x512 (ix2 k l) = w (ix3 0 k l) := by
    pointwise []
  apply BitVec.eq_of_getLsbD_eq
  intro i hi
  simp only [nib, nibOf, BitVec.getLsbD_extractLsb', hi, decide_true, Bool.true_and]
  refine (bitcast_8_32_getLsbD_ix2 (shapeCast S32x512 w shapeCasts_S1x32x512_S32x512) bitcasts_S32x512_w8_S8x512_w32 R l (4 * j.val + i) (by omega) k (by omega)).trans ?_
  refine (congrArg (fun b : BitVec 8 => b.getLsbD _) hv).trans ?_
  refine congrArg (fun n => BitVec.getLsbD (w (ix3 0 k l)) n) ?_
  omega

set_option maxHeartbeats 1000000 in
/-- A quarter of the quads, nibble by nibble. -/
theorem quad_at (p : Fin 4) (v : Vec Ideal S1x64x512 .i8) (w : Vec Ideal S1x32x512 .i8) (i : Fin 64) (l : Fin 512) :
    quadOf p.val v w (ix2 i l) = quad p (nib (k0_pay28 v (ix2 ⟨i.val / 8, by omega⟩ l)) (i.val % 8)) (nib (k0_pay29 v (ix2 ⟨i.val / 8, by omega⟩ l)) (i.val % 8))
      (nib (k0_pay30 w (ix2 ⟨i.val / 8, by omega⟩ l)) (i.val % 8)) := by
  have hn : ∀ x : BitVec 32, BitVec.setWidth 4 (IntOp.shrui .vector x (IntOp.shli .vector (BitVec.ofNat 32 (i.val % 8)) 2#32)) = nib x (i.val % 8) :=
    fun x => nib_eq x ⟨i.val % 8, by omega⟩
  have hf : ∀ x : BitVec 32, nib (IntOp.subi (IntOp.shli .vector (IntOp.andi x 286331153#32) 4#32) (IntOp.andi x 286331153#32)) (i.val % 8)
      = if (nib x (i.val % 8)).getLsbD 0 then 15#4 else 0#4 := fun x => nib_fill x ⟨i.val % 8, by omega⟩
  have h1 : ∀ x : BitVec 32, (nib (IntOp.shrui .vector x 1#32) (i.val % 8)).getLsbD 0 = (nib x (i.val % 8)).getLsbD 1 := fun x => nib_shr x _ 1 (by decide)
  have h2 : ∀ x : BitVec 32, (nib (IntOp.shrui .vector x 2#32) (i.val % 8)).getLsbD 0 = (nib x (i.val % 8)).getLsbD 2 := fun x => nib_shr x _ 2 (by decide)
  have h3 : ∀ x : BitVec 32, (nib (IntOp.shrui .vector x 3#32) (i.val % 8)).getLsbD 0 = (nib x (i.val % 8)).getLsbD 3 := fun x => nib_shr x _ 3 (by decide)
  match p with
  | 0 | 1 | 2 | 3 =>
    unfold quadOf
    dsimp only
    simp only [k0_pay31, k0_pay32, k0_pay33, k0_pay34, k0_pay35, k0_pay36, k0_pay37, k0_pay38, k0_pay39, k0_pay40, k0_pay41, k0_pay42, k0_pay43, k0_pay44, k0_pay45, k0_pay46, k0_pay47]
    generalize k0_pay28 v = lo
    generalize k0_pay29 v = hi
    generalize k0_pay30 w = bits
    pointwise [k0_pay31]
    simp only [hn, nib_or, nib_and, nib_xor, hf, h1, h2, h3]
    rfl

/-- A half of the quads, scaled. -/
theorem half_at (h : ℕ) (hh : h < 2) (q : IVec S64x512 4) (s : Vec Ideal S1x1x512 .bf16) (i : Fin 32) (l : Fin 512) (k : Fin 64) (hk : k.val = 32 * h + i.val) :
    halfOf (F := Ideal) h q s (ix2 i l) = ((((q (ix2 k l)).toInt : ℝ) : EReal)) * s (ix3 0 0 l) := by
  interval_cases h
  · rw [show k = (⟨i.val, by clear hk; omega⟩ : Fin 64) from Fin.ext (by dsimp only; omega)]
    unfold halfOf
    pointwise [k0_pay48]
    rfl
  · rw [show k = (⟨32 + i.val, by clear hk; omega⟩ : Fin 64) from Fin.ext (by dsimp only; omega)]
    unfold halfOf
    pointwise [k0_pay49]
    rfl

/-- The packed values of a row block. -/
theorem vals_at (b : ℕ) (hb : b < 8) (x6 : Vec Ideal S1x512x512 .i8) (k : Fin 64) (l : Fin 512) (k' : Fin 512) (hk : k'.val = 64 * b + k.val) :
    valsOf b hb x6 (ix3 0 k l) = x6 (ix3 0 k' l) := by
  unfold valsOf
  refine congrArg x6 (funext fun a => Fin.ext ?_)
  fin_cases a
  · rfl
  · show 64 * b + 1 * k.val = k'.val; omega
  · show 0 + 1 * l.val = l.val; omega

/-- The packed places of a row block. -/
theorem idx_at (b : ℕ) (hb : b < 8) (x7 : Vec Ideal S1x256x512 .i8) (k : Fin 32) (l : Fin 512) (k' : Fin 256) (hk : k'.val = 32 * b + k.val) :
    idxOf b hb x7 (ix3 0 k l) = x7 (ix3 0 k' l) := by
  unfold idxOf
  refine congrArg x7 (funext fun a => Fin.ext ?_)
  fin_cases a
  · rfl
  · show 32 * b + 1 * k.val = k'.val; omega
  · show 0 + 1 * l.val = l.val; omega

/-- The scales of a half row block. -/
theorem scale_at (b : ℕ) (hb : b < 8) (h : ℕ) (hh : h < 2) (x8 : Vec Ideal S1x16x512 .bf16) (l : Fin 512) (k' : Fin 16) (hk : k'.val = 2 * b + h) :
    scaleOf b hb h hh x8 (ix3 0 0 l) = x8 (ix3 0 k' l) := by
  unfold scaleOf
  refine congrArg x8 (funext fun a => Fin.ext ?_)
  fin_cases a
  · rfl
  · show 2 * b + h + 1 * 0 = k'.val; omega
  · show 0 + 1 * l.val = l.val; omega

/-- The delta row that row `c` of the dense block holds. -/
def src (c : ℕ) : ℕ := 256 * (c / 256) + c / 32 % 2 * 128 + c % 32 * 4 + c % 256 / 64

/-- The permutation stays below 2048. -/
theorem src_lt {c : ℕ} (h : c < 2048) : src c < 2048 := by
  unfold src; omega

/-- One entry of the dense block. -/
theorem dense_at (x6 : Vec Ideal S1x512x512 .i8) (x7 : Vec Ideal S1x256x512 .i8) (x8 : Vec Ideal S1x16x512 .bf16) (c : Fin 2048) (l : Fin 512)
    (kv : Fin 512) (hkv : kv.val = src c.val / 4) (kw : Fin 256) (hkw : kw.val = src c.val / 8) (ks : Fin 16) (hks : ks.val = src c.val / 128)
    (hd : Distinct (x7 (ix3 0 kw l))) :
    denseOf x6 x7 x8 (ix2 c l) = (((entry (x6 (ix3 0 kv l)) (x7 (ix3 0 kw l)) (src c.val) : ℤ) : ℝ) : EReal) * x8 (ix3 0 ks l) := by
  have hc := c.isLt
  have hsrc : src c.val = 256 * (c.val / 256) + 128 * (c.val % 64 / 32) + 4 * (c.val % 32) + c.val % 256 / 64 := by
    have : c.val / 32 % 2 = c.val % 64 / 32 := by omega
    unfold src; omega
  have key : ∀ (S b p h : ℕ) (hb : b < 8) (hp : p < 4) (hh : h < 2) (i : Fin 32) (hS : S = 256 * b + 128 * h + 4 * i.val + p)
      (hkv : kv.val = S / 4) (hkw : kw.val = S / 8) (hks : ks.val = S / 128), rowsOf b hb p h hh x6 x7 x8 (ix2 i l)
      = (((entry (x6 (ix3 0 kv l)) (x7 (ix3 0 kw l)) S : ℤ) : ℝ) : EReal) * x8 (ix3 0 ks l) := by
    intro S b p h hb hp hh i hS hkv hkw hks
    have hi' := i.isLt
    unfold rowsOf
    have hq : 32 * h + i.val < 64 := by omega
    have q2 : (32 * h + i.val) / 2 < 32 := by omega
    rw [half_at _ hh _ _ i l ⟨32 * h + i.val, hq⟩ rfl]
    rw [scale_at _ _ _ _ x8 l ks (by omega)]
    rw [quad_at ⟨p, hp⟩]
    dsimp only
    rw [lo_nib _ ⟨(32 * h + i.val) / 8, by omega⟩ ⟨(32 * h + i.val) % 8, by omega⟩ l ⟨32 * h + i.val, hq⟩ (by dsimp only; omega)]
    rw [hi_nib _ ⟨(32 * h + i.val) / 8, by omega⟩ ⟨(32 * h + i.val) % 8, by omega⟩ l ⟨32 * h + i.val, hq⟩ (by dsimp only; omega)]
    rw [bits_nib _ ⟨(32 * h + i.val) / 8, by omega⟩ ⟨(32 * h + i.val) % 8, by omega⟩ l ⟨(32 * h + i.val) / 2, q2⟩ (by dsimp only; omega)]
    rw [vals_at _ _ x6 _ l kv (by dsimp only; omega), idx_at _ _ x7 _ l kw (by dsimp only; omega)]
    have he : (32 * h + i.val) % 8 % 2 = S / 4 % 2 := by omega
    dsimp only
    rw [he, quad_entry _ _ S ⟨p, hp⟩ (by dsimp only; omega) hd]
  unfold denseOf
  exact (congrArg (rowsOf _ _ _ _ _ x6 x7 x8) (funext fun a => by match a with | 0 => rfl | 1 => rfl)).trans
    (key (src c.val) (c.val / 256) (c.val % 256 / 64) (c.val % 64 / 32) _ (by omega) _ ⟨c.val % 32, Nat.mod_lt _ (by decide)⟩ hsrc hkv hkw hks)

end Cert.KernelIdeal.Hand

end
-- ==== Proof.KernelIdeal.PermAt.lean ====
/- The permuted codes, entry by entry: a code of the row, from the column that the dense row of the same number holds. -/

module

public import proofs.«01_k».proof.Proof.KernelIdeal.DenseAt
public import proofs.«01_k».proof.Proof.KernelIdeal.Values
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

/-- The column of a block of 256 that the permutation puts at place `q`. -/
def srcIn (q : ℕ) : ℕ := q / 32 % 2 * 128 + q % 32 * 4 + q / 64

/-- The column the permutation matrix computes. -/
theorem perm_col : ∀ q : Fin 256,
    (IntOp.addi (IntOp.addi (IntOp.muli (IntOp.andi (IntOp.shrsi .vector (BitVec.ofNat 32 q.val) 5#32) 1#32) 128#32)
      (IntOp.muli (IntOp.andi (BitVec.ofNat 32 q.val) 31#32) 4#32)) (IntOp.shrsi .vector (BitVec.ofNat 32 q.val) 6#32))
    = BitVec.ofNat 32 (srcIn q.val) := by
  decide +kernel

/-- The permutation matrix's word at an entry. -/
theorem perm_word (x q : Fin 256) : BitVec.toInt (BitVec.setWidth 32 (IntOp.cmpi .eq (BitVec.ofNat 32 x.val)
    (IntOp.addi (IntOp.addi (IntOp.muli (IntOp.andi (IntOp.shrsi .vector (BitVec.ofNat 32 q.val) 5#32) 1#32) 128#32)
      (IntOp.muli (IntOp.andi (BitVec.ofNat 32 q.val) 31#32) 4#32)) (IntOp.shrsi .vector (BitVec.ofNat 32 q.val) 6#32))))
    = if x.val = srcIn q.val then 1 else 0 := by
  rw [perm_col]
  have hq : srcIn q.val < 256 := by have := q.isLt; unfold srcIn; omega
  by_cases h : x.val = srcIn q.val
  · rw [if_pos h, h]
    simp [IntOp.cmpi]
  · rw [if_neg h]
    have hne : BitVec.ofNat 32 x.val ≠ BitVec.ofNat 32 (srcIn q.val) := by
      intro e
      have e' := congrArg BitVec.toNat e
      rw [BitVec.toNat_ofNat, BitVec.toNat_ofNat] at e'
      have := x.isLt
      omega
    have hb : (BitVec.ofNat 32 x.val == BitVec.ofNat 32 (srcIn q.val)) = false := beq_false_of_ne hne
    unfold IntOp.cmpi
    dsimp only
    rw [hb]
    rfl

/-- The permutation matrix. -/
theorem permMat_at (x q : Fin 256) : (k0_pay16 (F := Ideal)) (ix2 x q) = if x.val = srcIn q.val then (1 : EReal) else 0 := by
  have h := perm_word x q
  pointwise [k0_pay16]
  refine (show _ = (((_ : ℤ) : ℝ) : EReal) from congrArg (fun z : ℤ => ((z : ℝ) : EReal)) h).trans ?_
  by_cases e : x.val = srcIn q.val <;> simp [e]

/-- A row times a column of the permutation matrix is one entry of the row. -/
theorem sum_perm (f : Fin 256 → EReal) (q : Fin 256) (s : Fin 256) (hs : s.val = srcIn q.val) :
    (∑ x, f x * (k0_pay16 (F := Ideal)) (ix2 x q)) = f s := by
  rw [Finset.sum_eq_single s]
  · rw [permMat_at, if_pos hs, mul_one]
  · intro x _ hx
    rw [permMat_at, if_neg (fun h => hx (Fin.ext (h.trans hs.symm))), mul_zero]
  · intro h; exact absurd (Finset.mem_univ s) h

/-- The permuted codes as one function of the codes. -/
def permFn (co : Vec Ideal S128x2048 .fp8e4m3) : Vec Ideal S128x2048 .bf16 := fun y =>
  co (ix2 (y 0) ⟨src (y 1).val, src_lt (y 1).isLt⟩)

/-- Each of the eight products is its block of that function. -/
theorem piece_at (co : Vec Ideal S128x2048 .fp8e4m3) (b : ℕ) (hb : b < 8) (r : Fin 128) (q : Fin 256)
    (inb : ∀ a, (![0, 256 * b] : Fin 2 → ℕ) a + S128x256.size a ≤ S128x2048.size a) :
    (∑ x : Fin 256, co (ix2 r ⟨256 * b + x.val, by omega⟩) * (k0_pay16 (F := Ideal)) (ix2 x q))
      = permFn co ((Rect.unit (s := S128x2048) ![0, 256 * b] S128x256.size inb).emb (ix2 r q)) := by
  have hq := q.isLt
  rw [sum_perm (fun x => co (ix2 r ⟨256 * b + x.val, by omega⟩)) q ⟨srcIn q.val, by unfold srcIn; omega⟩ rfl]
  unfold permFn
  refine congrArg co (funext fun a => Fin.ext ?_)
  fin_cases a
  · show r.val = 0 + 1 * r.val; omega
  · show 256 * b + srcIn q.val = src (256 * b + 1 * q.val)
    unfold srcIn src; omega

/-- An index of a block by its two coordinates. -/
theorem eta (j : S128x256.Idx) : j = ix2 (j 0) (j 1) := by
  funext a
  match a with
  | 0 => rfl
  | 1 => rfl

/-- The eight stores are blocks of that function. -/
theorem perm_pieces (x : Vec Ideal S128x2048 .bf16) : View.PiecesOf (permFn (codesOf x)) (permL x) := by
  have hx : (k0_pay17 (k0_pay10 x) (k0_pay11 (F := Ideal))) = codesOf x := rfl
  have h12 : (k0_pay12 (k0_pay10 x) (k0_pay11 (F := Ideal))) = codesOf x := rfl
  unfold permL
  rw [hx]
  refine ⟨?_, ?_, ?_, ?_, ?_, ?_, ?_, ?_, trivial⟩
  · intro j
    rw [eta j]
    generalize codesOf x = co
    refine Eq.trans ?_ (piece_at co 7 (by decide) (j 0) (j 1) (by intro a; fin_cases a <;> decide))
    pointwise [k0_pay1, k0_pay26]
  · intro j
    rw [eta j]
    generalize codesOf x = co
    refine Eq.trans ?_ (piece_at co 6 (by decide) (j 0) (j 1) (by intro a; fin_cases a <;> decide))
    pointwise [k0_pay25]
  · intro j
    rw [eta j]
    generalize codesOf x = co
    refine Eq.trans ?_ (piece_at co 5 (by decide) (j 0) (j 1) (by intro a; fin_cases a <;> decide))
    pointwise [k0_pay24]
  · intro j
    rw [eta j]
    generalize codesOf x = co
    refine Eq.trans ?_ (piece_at co 4 (by decide) (j 0) (j 1) (by intro a; fin_cases a <;> decide))
    pointwise [k0_pay23]
  · intro j
    rw [eta j]
    generalize codesOf x = co
    refine Eq.trans ?_ (piece_at co 3 (by decide) (j 0) (j 1) (by intro a; fin_cases a <;> decide))
    pointwise [k0_pay22]
  · intro j
    rw [eta j]
    generalize codesOf x = co
    refine Eq.trans ?_ (piece_at co 2 (by decide) (j 0) (j 1) (by intro a; fin_cases a <;> decide))
    pointwise [k0_pay21]
  · intro j
    rw [eta j]
    refine Eq.trans ?_ (piece_at (codesOf x) 1 (by decide) (j 0) (j 1) (by intro a; fin_cases a <;> decide))
    unfold k0_pay20 k0_pay19 k0_pay17
    rw [h12]
    generalize codesOf x = co
    pointwise []
  · intro j
    rw [eta j]
    refine Eq.trans ?_ (piece_at (codesOf x) 0 (by decide) (j 0) (j 1) (by intro a; fin_cases a <;> decide))
    unfold k0_pay18 k0_pay17
    rw [h12]
    generalize codesOf x = co
    pointwise []

/-- The codes at an entry. -/
theorem perm_at (x : Vec Ideal S128x2048 .bf16) (r : Fin 128) (k : Fin 2048) (s : Fin 2048) (hs : s.val = src k.val) :
    permOf x (ix2 r k) = codesOf x (ix2 r s) := by
  have h : permOf x (ix2 r k) = permFn (codesOf x) (ix2 r k) := by
    unfold permOf
    refine View.canon_eq_of_allAt _ _ _ (perm_cover x _) fun p hp y hy => ?_
    rw [← hy]
    exact (perm_pieces x).mem p hp y
  rw [h]
  unfold permFn
  exact congrArg (codesOf x) (funext fun a => Fin.ext (by fin_cases a; rfl; exact hs.symm))

end Cert.KernelIdeal.Hand

end
-- ==== Proof.KerY.lean ====
/- What one entry of the kernel's projection is. -/

module

public import proofs.«01_k».proof.Proof.KernelIdeal.PermAt
public import proofs.«01_k».proof.Proof.KernelIdeal.Final

@[expose] public section

set_option maxRecDepth 16384

noncomputable section

namespace Cert.KernelIdeal.Hand

open Cert.KernelIdeal Cert.KernelIdeal.Gen Idealize.ShloMosaic Idealize.ShloMosaic.TcCoe Idealize.SL.Sem Cert.Nibble

/-- One entry of an output block. -/
theorem y_at (sc : Vec Ideal S128x128 .f32) (base : Vec Ideal S128x512 .f32) (x5 : Vec Ideal S1x512 .f32) (acc : Vec Ideal S128x512 .f32) (r : Fin 128) (l : Fin 512) :
    yOf sc base x5 acc (ix2 r l) = base (ix2 r l) * sc (ix2 r 0) * x5 (ix2 0 l) + acc (ix2 r l) * sc (ix2 r 0) := by
  unfold yOf
  pointwise [k0_pay6]

/-- One entry of a base product. -/
theorem base_at (c : Vec Ideal S128x2048 .fp8e4m3) (w : Vec Ideal S2048x512 .fp8e4m3) (r : Fin 128) (l : Fin 512) :
    k0_pay3 c w (ix2 r l) = ∑ k : Fin 2048, c (ix2 r k) * w (ix2 k l) := by
  pointwise [k0_pay3]

/-- The accumulated product starts at zero. -/
theorem zero_at (r : Fin 128) (l : Fin 512) : (k0_pay4 : FVec Ideal S128x512 .f32) (ix2 r l) = 0 := by
  pointwise [k0_pay4]

/-- A code where the row is one of the tenant's, zero elsewhere. -/
def sel (r : ℕ) (a b : BitVec 32) (x : EReal) : EReal :=
  Scalar.select (IntOp.andi (IntOp.cmpi .sge (BitVec.ofNat 32 r) a) (IntOp.cmpi .slt (BitVec.ofNat 32 r) b)) x 0

/-- Every row of the delta is held by one row of the dense block. -/
theorem src_bij : Function.Bijective (fun c : Fin 2048 => (⟨src c.val, src_lt c.isLt⟩ : Fin 2048)) := by
  rw [← Finite.injective_iff_bijective]
  have hinv : ∀ c : Fin 2048, 256 * (src c.val / 256) + 64 * (src c.val % 4) + 32 * (src c.val / 128 % 2) + src c.val / 4 % 32 = c.val := by
    decide +kernel
  intro c c' h
  have h' : src c.val = src c'.val := congrArg Fin.val h
  have e := hinv c
  rw [h', hinv c'] at e
  exact Fin.ext e.symm

/-- One entry of the product of the masked codes with a tenant's delta, added to `acc`. -/
theorem acc_at (acc : Vec Ideal S128x512 .f32) (a b : BitVec 32) (x : Vec Ideal S128x2048 .bf16) (x6 : Vec Ideal S1x512x512 .i8) (x7 : Vec Ideal S1x256x512 .i8) (x8 : Vec Ideal S1x16x512 .bf16)
    (hd : ∀ y, Distinct (x7 y)) (r : Fin 128) (l : Fin 512) :
    k0_pay5 acc (k0_pay2 a b (permOf x)) (denseOf x6 x7 x8) (ix2 r l) = acc (ix2 r l) + ∑ k : Fin 2048, sel r.val a b (codesOf x (ix2 r k))
      * ((((entry (x6 (ix3 0 ⟨k.val / 4, by omega⟩ l)) (x7 (ix3 0 ⟨k.val / 8, by omega⟩ l)) k.val : ℤ) : ℝ) : EReal) * x8 (ix3 0 ⟨k.val / 128, by omega⟩ l)) := by
  have h5 : ∀ (X : Vec Ideal S1x128x2048 .bf16) (D : Vec Ideal S2048x512 .bf16), k0_pay5 acc X D (ix2 r l) = acc (ix2 r l) + ∑ k : Fin 2048, X (ix3 0 r k) * D (ix2 k l) := by
    intro X D
    pointwise [k0_pay5]
  have h2 : ∀ (X : Vec Ideal S128x2048 .bf16) (k : Fin 2048), k0_pay2 a b X (ix3 0 r k) = sel r.val a b (X (ix2 r k)) := by
    intro X k
    pointwise [k0_pay2]
    rfl
  rw [h5]
  refine congrArg (acc (ix2 r l) + ·) ?_
  refine Eq.trans (Finset.sum_congr rfl fun c _ => ?_) (src_bij.sum_comp (fun k : Fin 2048 => sel r.val a b (codesOf x (ix2 r k))
      * ((((entry (x6 (ix3 0 ⟨k.val / 4, by omega⟩ l)) (x7 (ix3 0 ⟨k.val / 8, by omega⟩ l)) k.val : ℤ) : ℝ) : EReal) * x8 (ix3 0 ⟨k.val / 128, by omega⟩ l))))
  have hs := src_lt c.isLt
  rw [h2, perm_at x r c ⟨src c.val, hs⟩ rfl, dense_at x6 x7 x8 c l ⟨src c.val / 4, by omega⟩ rfl ⟨src c.val / 8, by omega⟩ rfl ⟨src c.val / 128, by omega⟩ rfl (hd _)]

end Cert.KernelIdeal.Hand

end
-- ==== Proof.RefY.lean ====
/- The reference's projection, as its body's values at the arguments, and what one entry of it is. -/

module

public import proofs.«01_k».proof.Proof.RefFinal
public import proofs.«01_k».proof.Proof.Nibble

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Tenant `t`'s packed values. -/
def dvOf (t : ℕ) (ht : t < 7) (DV : Vec F S7x512x5632 .i8) : Vec F S1x512x5632 .i8 :=
  View.ld (Val := Elt F) (e' := .i8) DV (Rect.unit (s := S7x512x5632) ![t, 0, 0] S1x512x5632.size (by intro a; fin_cases a <;> simp [S7x512x5632, S1x512x5632, Shape.size] <;> omega))
/-- Tenant `t`'s packed places. -/
def diOf (t : ℕ) (ht : t < 7) (DI : Vec F S7x256x5632 .i8) : Vec F S1x256x5632 .i8 :=
  View.ld (Val := Elt F) (e' := .i8) DI (Rect.unit (s := S7x256x5632) ![t, 0, 0] S1x256x5632.size (by intro a; fin_cases a <;> simp [S7x256x5632, S1x256x5632, Shape.size] <;> omega))
/-- Tenant `t`'s scales. -/
def dsOf (t : ℕ) (ht : t < 7) (DS : Vec F S7x16x5632 .bf16) : Vec F S1x16x5632 .bf16 :=
  View.ld (Val := Elt F) (e' := .bf16) DS (Rect.unit (s := S7x16x5632) ![t, 0, 0] S1x16x5632.size (by intro a; fin_cases a <;> simp [S7x16x5632, S1x16x5632, Shape.size] <;> omega))
/-- Offset `t`. -/
def offOf (t : ℕ) (ht : t < 8) (O : Vec F S8 .i32) : BitVec 32 :=
  View.ld (Val := Elt F) (e' := .i32) O (Rect.unit (s := S8) ![t] S1.size (by intro a; fin_cases a; simp [S8, S1, Shape.size]; omega)) (Shape.Idx.first (s := S1) (by decide))

/-- One tenant's product added to `prev`. -/
def tenOf (xb : FVec F S128x2048 .bf16) (v : Vec F S1x512x5632 .i8) (w : Vec F S1x256x5632 .i8) (s : Vec F S1x16x5632 .bf16) (a b : BitVec 32) (prev : FVec F S128x5632 .f32) :
    FVec F S128x5632 .f32 :=
  k0_pay15 xb (iota .tc S128x2048 32 [0] iota_S128x2048_d0_w32) prev (k0_pay10 s) (iota .tc S2048x5632 32 [0] iota_S2048x5632_d0_w32)
    (k0_pay11 w) (k0_pay12 v) (k0_pay13 v) (k0_pay14 w) (FloatOps.ofBits FTy.bf16 0#16) a b

/-- Tenant `t`'s product added to `prev`, from the arguments. -/
def tenAt (X : Vec F S128x2048 .bf16) (DV : Vec F S7x512x5632 .i8) (DI : Vec F S7x256x5632 .i8) (DS : Vec F S7x16x5632 .bf16) (O : Vec F S8 .i32)
    (t : ℕ) (ht : t < 7) (prev : FVec F S128x5632 .f32) : FVec F S128x5632 .f32 :=
  tenOf (k0_pay7 X) (dvOf t ht DV) (diOf t ht DI) (dsOf t ht DS) (offOf t (by omega) O) (offOf (t + 1) (by omega) O) prev

/-- The products of the first `n` tenants added up. -/
def tens (X : Vec F S128x2048 .bf16) (DV : Vec F S7x512x5632 .i8) (DI : Vec F S7x256x5632 .i8) (DS : Vec F S7x16x5632 .bf16) (O : Vec F S8 .i32) :
    (n : ℕ) → n ≤ 7 → FVec F S128x5632 .f32
  | 0, _ => k0_pay8
  | n + 1, h => tenAt X DV DI DS O n h (tens X DV DI DS O n (by omega))

/-- The projection. -/
def projOf (X : Vec F S128x2048 .bf16) (W : Vec F S2048x5632 .fp8e4m3) (B : Vec F S1x5632 .f32) (delta : FVec F S128x5632 .f32) : FVec F S128x5632 .bf16 :=
  k0_pay1 (k0_pay55 (k0_pay3 X) (k0_pay6 X W) B) (mulf delta (broadcastTo S128x5632 (k0_pay3 X) broadcasts_S128x1_S128x5632))

/-- The projection the reference leaves. -/
theorem y_arr (c : Dev nD) (X : Vec F S128x2048 .bf16) (hX : iblk m c 0 t0 = X) (W) (hW : iblk m c 1 t0 = W) (B) (hB : iblk m c 2 t0 = B) (DV) (hDV : iblk m c 3 t0 = DV)
    (DI) (hDI : iblk m c 4 t0 = DI) (DS) (hDS : iblk m c 5 t0 = DS) (O) (hO : iblk m c 6 t0 = O) :
    (dats m 0 c).arrAt 7 cfg0.N = projOf X W B (tens X DV DI DS O 7 le_rfl) := by
  refine (dats m 0 c).arrAt_eq_of_after_last 7 t0 (by decide +kernel) _ fun j => ?_
  blk_simp
  rw [after0_7]
  unfold outsAt0
  frame_out
  simp only [read_unread_whole]
  simp only [hX, hW, hB, hDV, hDI, hDS, hO]
  refine congrFun ?_ j
  rfl

/-- A code where the row is one of the tenant's, zero elsewhere. -/
def sel (r : ℕ) (a b : BitVec 32) (x : EReal) : EReal :=
  Scalar.select (IntOp.andi (IntOp.cmpi .sge (BitVec.ofNat 32 r) a) (IntOp.cmpi .slt (BitVec.ofNat 32 r) b)) x 0

/-- The mask may be taken before or after a product. -/
theorem sel_mul (r : ℕ) (a b : BitVec 32) (x d : EReal) : sel r a b x * d = sel r a b (x * d) := by
  unfold sel Scalar.select
  split
  · rfl
  · exact zero_mul d

/-- One entry of a tenant's product. -/
theorem tenOf_at (xb : FVec Ideal S128x2048 .bf16) (v : Vec Ideal S1x512x5632 .i8) (w : Vec Ideal S1x256x5632 .i8) (s : Vec Ideal S1x16x5632 .bf16) (a b : BitVec 32) (prev : FVec Ideal S128x5632 .f32)
    (r : Fin 128) (q : Fin 5632) : tenOf xb v w s a b prev (ix2 r q) = prev (ix2 r q) + ∑ k : Fin 2048, sel r.val a b (xb (ix2 r k))
      * ((((Nibble.entry (v (ix3 0 ⟨k.val / 4, by omega⟩ q)) (w (ix3 0 ⟨k.val / 8, by omega⟩ q)) k.val : ℤ) : ℝ) : EReal) * s (ix3 0 ⟨k.val / 128, by omega⟩ q)) := by
  unfold tenOf
  pointwise [k0_pay15, k0_pay10, k0_pay11, k0_pay12, k0_pay13, k0_pay14, k0_pay9]
  refine congrArg (prev (ix2 r q) + ·) (Finset.sum_congr rfl fun k _ => ?_)
  rw [← Nibble.entry_sum, sel_mul]
  rfl

/-- One entry of the projection. -/
theorem projOf_at (X : Vec Ideal S128x2048 .bf16) (W : Vec Ideal S2048x5632 .fp8e4m3) (B : Vec Ideal S1x5632 .f32) (d : FVec Ideal S128x5632 .f32)
    (r : Fin 128) (q : Fin 5632) : projOf X W B d (ix2 r q)
      = (∑ k : Fin 2048, k0_pay4 X (ix2 r k) * W (ix2 k q)) * k0_pay3 X (ix2 r 0) * B (ix2 0 q) + d (ix2 r q) * k0_pay3 X (ix2 r 0) := by
  unfold projOf
  generalize hs : k0_pay3 X = sc
  pointwise [k0_pay1, k0_pay55, k0_pay6]

/-- The sum of the tenants' products starts at zero. -/
theorem zero_at (r : Fin 128) (q : Fin 5632) : (k0_pay8 : FVec Ideal S128x5632 .f32) (ix2 r q) = 0 := by
  pointwise [k0_pay8]

/-- Tenant `t`'s packed values, read. -/
theorem dvOf_at (t : ℕ) (ht : t < 7) (DV : Vec Ideal S7x512x5632 .i8) (k : Fin 512) (q : Fin 5632) : dvOf t ht DV (ix3 0 k q) = DV (ix3 ⟨t, ht⟩ k q) := by
  unfold dvOf
  refine congrArg DV (funext fun a => Fin.ext ?_)
  fin_cases a
  · rfl
  · show 0 + 1 * k.val = k.val; omega
  · show 0 + 1 * q.val = q.val; omega

/-- Tenant `t`'s packed places, read. -/
theorem diOf_at (t : ℕ) (ht : t < 7) (DI : Vec Ideal S7x256x5632 .i8) (k : Fin 256) (q : Fin 5632) : diOf t ht DI (ix3 0 k q) = DI (ix3 ⟨t, ht⟩ k q) := by
  unfold diOf
  refine congrArg DI (funext fun a => Fin.ext ?_)
  fin_cases a
  · rfl
  · show 0 + 1 * k.val = k.val; omega
  · show 0 + 1 * q.val = q.val; omega

/-- Tenant `t`'s scales, read. -/
theorem dsOf_at (t : ℕ) (ht : t < 7) (DS : Vec Ideal S7x16x5632 .bf16) (k : Fin 16) (q : Fin 5632) : dsOf t ht DS (ix3 0 k q) = DS (ix3 ⟨t, ht⟩ k q) := by
  unfold dsOf
  refine congrArg DS (funext fun a => Fin.ext ?_)
  fin_cases a
  · rfl
  · show 0 + 1 * k.val = k.val; omega
  · show 0 + 1 * q.val = q.val; omega

/-- Offset `t`, read. -/
theorem offOf_at (t : ℕ) (ht : t < 8) (O : Vec Ideal S8 .i32) (y : S8.Idx) (hy : (y 0).val = t) : offOf t ht O = O y := by
  unfold offOf
  refine congrArg O (funext fun a => Fin.ext ?_)
  fin_cases a
  exact hy.symm

/-- The codes in the format the products take. -/
theorem xb_eq (X : Vec Ideal S128x2048 .bf16) (y : S128x2048.Idx) : k0_pay7 X y = k0_pay4 X y := rfl

end Cert.ReferenceIdeal.Hand

end
-- ==== Proof.Quant.lean ====
/- The two quantisers compared: the kernel's scales and codes are the reference's. -/

module

public import proofs.«01_k».proof.Proof.KernelIdeal.Values
public import proofs.«01_k».proof.Proof.Gen.ReferenceIdeal.Skeleton
public import Idealize.ShloMosaic.Lib.Pointwise
public import Idealize.ShloMosaic.PureOps.Reduce

@[expose] public section

noncomputable section

namespace Cert.Values

open Idealize.ShloMosaic

/-- A 32-bit pattern reads as an IEEE number of 8 and 23 bits. -/
theorem ofBits_f32 (b : BitVec 32) : Ideal.ofBits .f32 b = Ideal.ieee 8 23 b := rfl

/-- A pattern read by its three fields. -/
theorem ieee_fields (b : BitVec 32) (neg : Bool) (ex fr : ℕ) (ha : (b.extractLsb' 31 1 == 1#1) = neg)
    (hb : (b.extractLsb' 23 8).toNat = ex) (hc : (b.extractLsb' 0 23).toNat = fr) :
    Ideal.ofBits .f32 b = (if ex = 255 then (if fr = 0 then (if neg then ⊥ else ⊤) else ⊥)
      else if ex = 0 then ((((if neg then -1 else 1 : ℝ)) * fr * (2 : ℝ) ^ (-149 : ℤ) : ℝ) : EReal)
      else ((((if neg then -1 else 1 : ℝ)) * (2 ^ 23 + fr : ℕ) * (2 : ℝ) ^ ((ex : ℤ) - 127 - 23) : ℝ) : EReal)) := by
  subst ha hb hc
  rw [ofBits_f32]
  rfl

/-- The pattern with exponent field `k` alone is the power of two it names. -/
theorem ofBits_pow (k : Fin 256) (h1 : 1 ≤ k.val) (h2 : k.val ≤ 254) :
    Ideal.ofBits .f32 (IntOp.shli ArithUnit.vector (BitVec.ofNat 32 k.val) 23#32) = (((2:ℝ) ^ ((k.val:ℤ) - 127) : ℝ) : EReal) := by
  have h : ∀ k : Fin 256, ((IntOp.shli ArithUnit.vector (BitVec.ofNat 32 k.val) 23#32).extractLsb' 31 1 == 1#1) = decide (256 ≤ k.val)
      ∧ ((IntOp.shli ArithUnit.vector (BitVec.ofNat 32 k.val) 23#32).extractLsb' 23 8).toNat = k.val
      ∧ ((IntOp.shli ArithUnit.vector (BitVec.ofNat 32 k.val) 23#32).extractLsb' 0 23).toNat = 0 := by decide +kernel
  obtain ⟨ha, hb, hc⟩ := h k
  have ha' := ha.trans (decide_eq_false (by omega))
  generalize IntOp.shli ArithUnit.vector (BitVec.ofNat 32 k.val) 23#32 = w at ha' hb hc
  rw [ieee_fields w false k.val 0 ha' hb hc, if_neg (by omega), if_neg (by omega)]
  congr 1
  rw [zpow_sub₀ (by norm_num : (2:ℝ) ≠ 0) ((k.val:ℤ) - 127) 23]
  norm_num
  ring

/-- The zero word shifted reads 0. -/
theorem ofBits_zero' : Ideal.ofBits .f32 (IntOp.shli ArithUnit.vector (BitVec.ofNat 32 0) 23#32) = 0 := by
  have : IntOp.shli ArithUnit.vector (BitVec.ofNat 32 0) 23#32 = 0#32 := by decide +kernel
  rw [this]; exact Ideal.ofBits_zero_f32

/-- The pattern of plus infinity. -/
theorem ofBits_top : Ideal.ofBits .f32 (2139095040#32) = ⊤ := by
  rw [ieee_fields (2139095040#32) false 255 0 (by decide +kernel) (by decide +kernel) (by decide +kernel)]; rfl

/-- The pattern of minus infinity. -/
theorem ofBits_bot : Ideal.ofBits .f32 (4286578688#32) = ⊥ := by
  rw [ieee_fields (4286578688#32) true 255 0 (by decide +kernel) (by decide +kernel) (by decide +kernel)]; rfl

/-- The pattern of the least normal number. -/
theorem ofBits_tiny : Ideal.ofBits .f32 (8388608#32) = (((2:ℝ) ^ (-126 : ℤ) : ℝ) : EReal) := by
  rw [ieee_fields (8388608#32) false 1 0 (by decide +kernel) (by decide +kernel) (by decide +kernel), if_neg (by decide), if_neg (by decide)]
  congr 1; norm_num

/-- The largest activation the precondition admits. -/
theorem ofBits_max : ∃ c : ℝ, Ideal.ofBits .f32 (2139029504#32) = (c : EReal) ∧ c ≤ (2:ℝ) ^ (128 : ℤ) := by
  have h := ieee_fields (2139029504#32) false 254 (0x7F0000) (by decide +kernel) (by decide +kernel) (by decide +kernel)
  rw [if_neg (by decide), if_neg (by decide)] at h
  exact ⟨_, h, by norm_num⟩

/-- The reciprocal of 448 as a constant: a nonnegative real at most `2⁻⁸`. -/
theorem ofBits_c : ∃ c : ℝ, Ideal.ofBits .f32 (991054117#32) = (c : EReal) ∧ 0 ≤ c ∧ c ≤ (2:ℝ) ^ (-8 : ℤ) := by
  have h := ieee_fields (991054117#32) false 118 1198373 (by decide +kernel) (by decide +kernel) (by decide +kernel)
  rw [if_neg (by decide), if_neg (by decide)] at h
  exact ⟨_, h, by norm_num, by norm_num⟩

/-- The count of the powers that are not above the b-th one. -/
theorem fold_count : ∀ b : Fin 255, Finset.fold IntOp.addi (0#32) (fun k : Fin 256 => if b.val < k.val then 0#32 else 1#32) Finset.univ = BitVec.ofNat 32 (b.val + 1) := by
  decide +kernel

/-- A small word less 126, signed. -/
theorem sub126 : ∀ k : Fin 256, (IntOp.subi (BitVec.ofNat 32 k.val) 126#32).toInt = (k.val:ℤ) - 126 := by decide +kernel

/-- The k-th tested power of two. -/
theorem exp2_pow (k : Fin 256) :
    FloatOps.exp2 (F := Ideal) (FloatOps.sitofp (F := Ideal) FTy.f32 (IntOp.subi (BitVec.ofNat 32 k.val) 126#32)) = (((2:ℝ) ^ ((k.val:ℤ) - 126) : ℝ) : EReal) := by
  show Ideal.exp2 (((IntOp.subi (BitVec.ofNat 32 k.val) 126#32).toInt : ℝ) : EReal) = _
  rw [sub126]
  show ((Real.rpow 2 _ : ℝ) : EReal) = _
  congr 1
  exact Real.rpow_intCast 2 _

/-- Between two powers of two: the exponent of a real below `2¹²⁰`. -/
theorem exists_exponent (v : ℝ) (h : v < (2:ℝ) ^ (121 : ℤ)) :
    ∃ b : ℕ, b ≤ 247 ∧ ∀ k : ℕ, 1 ≤ k → ((2:ℝ) ^ ((k:ℤ) - 127) ≤ v ↔ k ≤ b) := by
  classical
  set P : ℕ → Prop := fun k => k = 0 ∨ (2:ℝ) ^ ((k:ℤ) - 127) ≤ v with hP
  refine ⟨Nat.findGreatest P 247, Nat.findGreatest_le 247, fun k hk => ⟨fun h1 => ?_, fun h1 => ?_⟩⟩
  · have hk2 : k ≤ 247 := by
      by_contra hc
      have h3 : (121:ℤ) ≤ (k:ℤ) - 127 := by omega
      have h2 : (2:ℝ) ^ (121:ℤ) ≤ (2:ℝ) ^ ((k:ℤ) - 127) := zpow_le_zpow_right₀ (by norm_num) h3
      linarith
    exact Nat.le_findGreatest hk2 (Or.inr h1)
  · have h2 : P (Nat.findGreatest P 247) := Nat.findGreatest_spec (P := P) (m := 0) (by omega) (Or.inl rfl)
    rcases h2 with h2 | h2
    · omega
    · refine le_trans (zpow_le_zpow_right₀ (by norm_num) ?_) h2
      have : (k:ℤ) ≤ (Nat.findGreatest P 247 : ℤ) := by exact_mod_cast h1
      linarith

/-- A row's largest magnitude, scaled down: a nonnegative real below `2¹²⁰`. -/
theorem row_max {n : ℕ} [NeZero n] (y : Fin n → Ideal .bf16) (hy : ∀ k, max (y k) (-y k) ≤ (((2:ℝ) ^ (128:ℤ) : ℝ) : EReal)) :
    ∃ v : ℝ, 0 ≤ v ∧ v < (2:ℝ) ^ (121:ℤ) ∧
      Finset.fold max (Ideal.ofBits FTy.f32 4286578688#32) (fun k : Fin n => (FloatOps.absf (F := Ideal) (φ := .f32) (y k) : EReal)) Finset.univ * Ideal.ofBits .f32 (991054117#32) = (v : EReal) := by
  obtain ⟨c, hc, hc0, hc1⟩ := ofBits_c
  rw [ofBits_bot, hc]
  set M : EReal := Finset.fold max (⊥ : EReal) (fun k : Fin n => (FloatOps.absf (F := Ideal) (φ := .f32) (y k) : EReal)) Finset.univ with hM
  have h1 : M ≤ (((2:ℝ) ^ (128:ℤ) : ℝ) : EReal) := by
    rw [hM, Finset.fold_max_le]
    exact ⟨bot_le, fun k _ => hy k⟩
  have h0 : (0 : EReal) ≤ M := by
    rw [hM, Finset.le_fold_max]
    refine Or.inr ⟨0, Finset.mem_univ _, ?_⟩
    show (0 : EReal) ≤ max (y 0) (-y 0)
    rcases le_total (0 : EReal) (y 0) with h | h
    · exact le_max_of_le_left h
    · exact le_max_of_le_right (by simpa using EReal.neg_le_neg_iff.mpr h)
  lift M to ℝ using ⟨ne_of_lt (lt_of_le_of_lt h1 (EReal.coe_lt_top _)), ne_of_gt (lt_of_lt_of_le (EReal.bot_lt_coe 0) h0)⟩ with M'
  have h0' : 0 ≤ M' := by exact_mod_cast h0
  have h1' : M' ≤ (2:ℝ) ^ (128:ℤ) := by exact_mod_cast h1
  refine ⟨M' * c, mul_nonneg h0' hc0, ?_, (EReal.coe_mul _ _).symm⟩
  have := mul_le_mul h1' hc1 hc0 (by positivity)
  rw [← zpow_add₀ (by norm_num : (2:ℝ) ≠ 0)] at this
  norm_num at this ⊢
  linarith

/-- The exponent word of a count. -/
theorem word_e : ∀ b : Fin 248,
    Scalar.select (IntOp.cmpi CmpIPredicate.eq (IntOp.subi (BitVec.ofNat 32 (b.val + 1)) 1#32) 0#32) (0#32)
      (IntOp.subi (IntOp.subi (BitVec.ofNat 32 (b.val + 1)) 1#32) 126#32)
      = if b.val = 0 then 0#32 else BitVec.ofNat 32 b.val - 126#32 := by decide +kernel

/-- The word of the scale. -/
theorem word_s : ∀ b : Fin 248, IntOp.addi (if b.val = 0 then 0#32 else BitVec.ofNat 32 b.val - 126#32) 127#32
    = BitVec.ofNat 32 (if b.val = 0 then 127 else b.val + 1) := by decide +kernel

/-- The word of the reciprocal of the scale. -/
theorem word_i : ∀ b : Fin 248, IntOp.subi (127#32) (if b.val = 0 then 0#32 else BitVec.ofNat 32 b.val - 126#32)
    = BitVec.ofNat 32 (if b.val = 0 then 127 else 253 - b.val) := by decide +kernel

/-- A row's largest magnitude over 448, as both programs compute it. -/
def rowMax (x : Vec Ideal Cert.KernelIdeal.S128x2048 .bf16) (r : Fin 128) : EReal :=
  Finset.fold max (Ideal.ofBits FTy.f32 4286578688#32) (fun k : Fin 2048 => (FloatOps.absf (F := Ideal) (φ := .f32) (x (ix2 r k)) : EReal)) Finset.univ * Ideal.ofBits FTy.f32 991054117#32

/-- What the exponent of a row's scale is told by. -/
def Exponent (v : ℝ) (b : Fin 248) : Prop := ∀ k : ℕ, 1 ≤ k → ((2:ℝ) ^ ((k:ℤ) - 127) ≤ v ↔ k ≤ b.val)

/-- The kernel's count of the powers of two not above a real. -/
theorem count_eq (v : ℝ) (h0 : 0 ≤ v) (b : Fin 248) (hb : Exponent v b) :
    Finset.fold IntOp.addi (0#32) (fun k : Fin 256 => if (v : EReal) < Ideal.ofBits FTy.f32 (IntOp.shli ArithUnit.vector (BitVec.ofNat 32 k.val) 23#32) then 0#32 else 1#32) Finset.univ
      = BitVec.ofNat 32 (b.val + 1) := by
  refine Eq.trans (congrArg (fun f => Finset.fold IntOp.addi (0#32) f Finset.univ) (funext fun k => ?_)) (fold_count ⟨b.val, by omega⟩)
  have : ((v : EReal) < Ideal.ofBits FTy.f32 (IntOp.shli ArithUnit.vector (BitVec.ofNat 32 k.val) 23#32)) ↔ b.val < k.val := by
    by_cases hk0 : k.val = 0
    · rw [hk0, ofBits_zero']
      simpa using h0
    by_cases hk1 : k.val = 255
    · have e : IntOp.shli ArithUnit.vector (BitVec.ofNat 32 255) 23#32 = 2139095040#32 := by decide +kernel
      rw [hk1, e, ofBits_top]
      exact ⟨fun _ => by omega, fun _ => EReal.coe_lt_top v⟩
    · rw [ofBits_pow k (by omega) (by omega), EReal.coe_lt_coe_iff]
      have := hb k.val (by omega)
      constructor
      · intro h; by_contra hc; exact absurd (this.mpr (by omega)) (by linarith)
      · intro h; by_contra hc; exact absurd (this.mp (by linarith)) (by omega)
  simp only [this]

/-- The kernel finds the exponent of a row. -/
theorem k_e (x : Vec Ideal Cert.KernelIdeal.S128x2048 .bf16) (r : Fin 128) (v : ℝ) (hv : rowMax x r = (v : EReal)) (h0 : 0 ≤ v)
    (b : Fin 248) (hb : Exponent v b) :
    Cert.KernelIdeal.Gen.k0_pay8 x (ix2 r (0:Fin 1)) = if b.val = 0 then 0#32 else BitVec.ofNat 32 b.val - 126#32 := by
  have hc := count_eq v h0 b hb
  rw [← hv] at hc
  unfold rowMax at hc
  pointwise [Cert.KernelIdeal.Gen.k0_pay8, Cert.KernelIdeal.Gen.k0_pay7]
  rw [hc]
  exact word_e b

/-- The kernel's scale of a row. -/
theorem k_col (x : Vec Ideal Cert.KernelIdeal.S128x2048 .bf16) (r : Fin 128) (v : ℝ) (hv : rowMax x r = (v : EReal)) (h0 : 0 ≤ v)
    (b : Fin 248) (hb : Exponent v b) :
    Cert.KernelIdeal.Gen.k0_pay9 x (ix2 r (0:Fin 1)) = (((2:ℝ) ^ (if b.val = 0 then (0:ℤ) else (b.val:ℤ) - 126) : ℝ) : EReal) := by
  pointwise [Cert.KernelIdeal.Gen.k0_pay9]
  rw [k_e x r v hv h0 b hb, word_s b]
  refine (ofBits_pow ⟨if b.val = 0 then 127 else b.val + 1, by split <;> omega⟩ (by dsimp only; split <;> omega) (by dsimp only; split <;> omega)).trans ?_
  congr 2
  dsimp only
  split <;> push_cast <;> omega

/-- The reciprocal the kernel multiplies a row with. -/
theorem k_inv (x : Vec Ideal Cert.KernelIdeal.S128x2048 .bf16) (r : Fin 128) (v : ℝ) (hv : rowMax x r = (v : EReal)) (h0 : 0 ≤ v)
    (b : Fin 248) (hb : Exponent v b) :
    Ideal.ofBits FTy.f32 (IntOp.shli ArithUnit.vector (IntOp.subi (127#32) (Cert.KernelIdeal.Gen.k0_pay8 x (ix2 r (0:Fin 1)))) 23#32)
      = ((1 / (2:ℝ) ^ (if b.val = 0 then (0:ℤ) else (b.val:ℤ) - 126) : ℝ) : EReal) := by
  rw [k_e x r v hv h0 b hb, word_i b]
  refine (ofBits_pow ⟨if b.val = 0 then 127 else 253 - b.val, by split <;> omega⟩ (by dsimp only; split <;> omega) (by dsimp only; split <;> omega)).trans ?_
  rw [one_div, ← zpow_neg]
  congr 2
  dsimp only
  split <;> omega

/-- The reference's scale of a row: the least power of two above the row's magnitude, or one. -/
theorem r_col (x : Vec Ideal Cert.KernelIdeal.S128x2048 .bf16) (r : Fin 128) (v : ℝ) (hv : rowMax x r = (v : EReal)) (h0 : 0 ≤ v)
    (b : Fin 248) (hb : Exponent v b) :
    Cert.ReferenceIdeal.Gen.k0_pay3 x (ix2 r (0:Fin 1)) = (((2:ℝ) ^ (if b.val = 0 then (0:ℤ) else (b.val:ℤ) - 126) : ℝ) : EReal) := by
  have key : ∀ k : ℕ, v < (2:ℝ) ^ ((k:ℤ) - 126) ↔ b.val ≤ k := by
    intro k
    have := hb (k + 1) (by omega)
    rw [show ((k + 1 : ℕ) : ℤ) - 127 = (k:ℤ) - 126 by push_cast; ring] at this
    constructor
    · intro h; by_contra hc; exact absurd (this.mpr (by omega)) (by linarith)
    · intro h; by_contra hc; exact absurd (this.mp (by linarith)) (by omega)
  pointwise [Cert.ReferenceIdeal.Gen.k0_pay3, Cert.ReferenceIdeal.Gen.k0_pay2]
  unfold rowMax at hv
  rw [hv, ofBits_tiny, ofBits_top]
  simp only [exp2_pow, EReal.coe_lt_coe_iff, key]
  by_cases h : b.val = 0
  · rw [if_pos ((by simpa using (key 0).mpr (by omega)) : v < (2:ℝ) ^ (-126 : ℤ)), if_pos h]
    simp
  · have hn : ¬ v < (2:ℝ) ^ (-126 : ℤ) := by
      have := (key 0).not.mpr (by omega)
      simpa using this
    rw [if_neg hn, if_neg h]
    apply le_antisymm
    · rw [Finset.fold_min_le]
      refine Or.inr ⟨⟨b.val, by omega⟩, Finset.mem_univ _, ?_⟩
      rw [if_pos (le_refl _)]
    · rw [Finset.le_fold_min]
      refine ⟨le_top, fun k _ => ?_⟩
      split
      · next hk =>
        rw [EReal.coe_le_coe_iff]
        exact zpow_le_zpow_right₀ (by norm_num) (by omega)
      · exact le_top

/-- Every activation is finite. -/
def Finite (x : Vec Ideal Cert.KernelIdeal.S128x2048 .bf16) : Prop :=
  ∀ r k, max (x (ix2 r k)) (-x (ix2 r k)) ≤ (((2:ℝ) ^ (128:ℤ) : ℝ) : EReal)

/-- Every row of finite numbers has a largest size and an exponent. -/
theorem exists_row (x : Vec Ideal Cert.KernelIdeal.S128x2048 .bf16) (hx : Finite x) (r : Fin 128) :
    ∃ (v : ℝ) (b : Fin 248), rowMax x r = (v : EReal) ∧ 0 ≤ v ∧ Exponent v b := by
  obtain ⟨v, h0, h1, hv⟩ := row_max (fun k : Fin 2048 => x (ix2 r k)) (fun k => hx r k)
  obtain ⟨b, hb, hk⟩ := exists_exponent v h1
  exact ⟨v, ⟨b, by omega⟩, hv, h0, hk⟩

/-- The two programs' scales agree. -/
theorem col_eq (x : Vec Ideal Cert.KernelIdeal.S128x2048 .bf16) (hx : Finite x) (r : Fin 128) :
    Cert.KernelIdeal.Gen.k0_pay9 x (ix2 r (0:Fin 1)) = Cert.ReferenceIdeal.Gen.k0_pay3 x (ix2 r (0:Fin 1)) := by
  obtain ⟨v, b, hv, h0, hb⟩ := exists_row x hx r
  rw [k_col x r v hv h0 b hb, r_col x r v hv h0 b hb]

/-- The two programs' codes agree. -/
theorem codes_eq (x : Vec Ideal Cert.KernelIdeal.S128x2048 .bf16) (hx : Finite x) :
    Cert.KernelIdeal.Hand.codesOf x = Cert.ReferenceIdeal.Gen.k0_pay4 x := by
  funext j
  obtain ⟨r, k, rfl⟩ : ∃ (r : Fin 128) (k : Fin 2048), j = ix2 r k := ⟨j 0, j 1, by funext a; fin_cases a <;> rfl⟩
  obtain ⟨v, b, hv, h0, hb⟩ := exists_row x hx r
  have hi := k_inv x r v hv h0 b hb
  have hr := r_col x r v hv h0 b hb
  pointwise [Cert.KernelIdeal.Hand.codesOf, Cert.KernelIdeal.Gen.k0_pay10, Cert.KernelIdeal.Gen.k0_pay12, Cert.KernelIdeal.Gen.k0_pay11, Cert.KernelIdeal.Gen.k0_pay7,
    Cert.ReferenceIdeal.Gen.k0_pay4, Cert.ReferenceIdeal.Gen.k0_pay2]
  rw [hi, hr, Ideal.div_coe (by positivity)]

/-- The two programs' rows of scales agree. -/
theorem scales_eq (x : Vec Ideal Cert.KernelIdeal.S128x2048 .bf16) (hx : Finite x) :
    Cert.KernelIdeal.Hand.scalesOf x = Cert.ReferenceIdeal.Gen.k0_pay5 x := by
  funext j
  obtain ⟨r, rfl⟩ : ∃ (r : Fin 128), j = ix2 (0 : Fin 1) r := ⟨j 1, by funext a; fin_cases a <;> first | rfl | exact Subsingleton.elim (α := Fin 1) _ _⟩
  have hc := col_eq x hx r
  pointwise [Cert.KernelIdeal.Hand.scalesOf, Cert.KernelIdeal.Hand.colOf, Cert.KernelIdeal.Gen.k0_pay15, Cert.KernelIdeal.Gen.k0_pay13, Cert.ReferenceIdeal.Gen.k0_pay5]
  exact hc

end Cert.Values
-- ==== Proof.Assemble.lean ====
/- The two programs' projections compared. -/

module

public import proofs.«01_k».proof.Proof.KernelIdeal.YArr
public import proofs.«01_k».proof.Proof.KerY
public import proofs.«01_k».proof.Proof.RefY
public import proofs.«01_k».proof.Proof.Quant

@[expose] public section

noncomputable section

namespace Cert.Values

open Idealize.ShloMosaic Idealize.ShloMosaic.TcCoe Idealize.SL.Sem
open Cert.KernelIdeal.Hand (Ok iblk pt wA wB SLOT DENSE addAt ACC BASE YV tbl V)

/-- No row is a tenant's whose rows end before they start. -/
theorem sel_empty (r : ℕ) (a b : BitVec 32) (x : EReal) (h : ¬ Scalar.cmpi .sgt b a = 1#1) : Cert.ReferenceIdeal.Hand.sel r a b x = 0 := by
  have hb : ∀ q : Bool, ¬ (BitVec.ofBool q = 1#1) → q = false := by decide
  have hba : (a.slt b) = false := hb _ h
  unfold Cert.ReferenceIdeal.Hand.sel
  have key : IntOp.andi (IntOp.cmpi .sge (BitVec.ofNat 32 r) a) (IntOp.cmpi .slt (BitVec.ofNat 32 r) b) = 0#1 := by
    show BitVec.ofBool (a.sle (BitVec.ofNat 32 r)) &&& BitVec.ofBool ((BitVec.ofNat 32 r).slt b) = 0#1
    generalize BitVec.ofNat 32 r = w
    cases h1 : a.sle w
    · simp
    · cases h2 : w.slt b
      · simp
      · exfalso
        simp only [BitVec.slt, BitVec.sle, decide_eq_true_eq, decide_eq_false_iff_not] at h1 h2 hba
        omega
  rw [key]
  rfl

/-- A point adds where its tenant has rows. -/
theorem cond_iff (i) (a b : BitVec 32) : Cert.KernelIdeal.Hand.cond0_3 i a b ↔ Scalar.cmpi .sgt b a = 1#1 := by
  unfold Cert.KernelIdeal.Hand.cond0_3
  generalize Scalar.cmpi .sgt b a = q
  revert q
  decide

variable (m : (ℓ : Loc Cert.KernelIdeal.nD Cert.KernelIdeal.τ Cert.KernelIdeal.sig) → Buf (Elt Ideal) ℓ)

/-- A point adds to an entry what the reference's tenant adds to it. -/
theorem addAt_at (hO : Ok m) (c : Dev Cert.KernelIdeal.nD) (X : Vec Ideal Cert.KernelIdeal.S128x2048 .bf16) (hX : iblk m hO c 0 (pt m hO 0) = X)
    (hcodes : Cert.KernelIdeal.Hand.codesOf X = Cert.ReferenceIdeal.Gen.k0_pay4 X)
    (DV : Vec Ideal Cert.KernelIdeal.S7x512x5632 .i8) (hDV : V m c Cert.KernelIdeal.main_arg3 = DV)
    (DI : Vec Ideal Cert.KernelIdeal.S7x256x5632 .i8) (hDI : V m c Cert.KernelIdeal.main_arg4 = DI)
    (DS : Vec Ideal Cert.KernelIdeal.S7x16x5632 .bf16) (hDS : V m c Cert.KernelIdeal.main_arg5 = DS)
    (O : Vec Ideal Cert.KernelIdeal.S8 .i32) (hOff : tbl m 0 = O)
    (hd : ∀ y, Nibble.Distinct (DI y)) (n : ℕ) (hn : n < 77) (t : ℕ) (ht : t < 7) (htn : t = n % 7) (r : Fin 128) (l : Fin 512) (q : Fin 5632) (hq : q.val = 512 * (n / 7) + l.val)
    (acc : Vec Ideal Cert.KernelIdeal.S128x512 .f32) (prev : FVec Ideal Cert.ReferenceIdeal.S128x5632 .f32) (hp : acc (ix2 r l) = prev (ix2 r q)) :
    addAt m hO c n acc (ix2 r l) = Cert.ReferenceIdeal.Hand.tenAt X DV DI DS O t ht prev (ix2 r q) := by
  let ya : Cert.KernelIdeal.S8.Idx := fun a => ⟨t, by fin_cases a; show t < 8; omega⟩
  let yb : Cert.KernelIdeal.S8.Idx := fun a => ⟨t + 1, by fin_cases a; show t + 1 < 8; omega⟩
  have hA : ∀ k, k < 77 → k % 7 = t → wA m hO c k = O ya := fun k hk h => (Cert.KernelIdeal.Hand.wA_at m hO c k hk ya h.symm).trans (congrFun hOff ya)
  have hB : ∀ k, k < 77 → k % 7 = t → wB m hO c k = O yb := fun k hk h =>
    (Cert.KernelIdeal.Hand.wB_at m hO c k hk yb (by show t + 1 = k % 7 + 1; omega)).trans (congrFun hOff yb)
  have hra : Cert.ReferenceIdeal.Hand.offOf t (by omega) O = O ya := Cert.ReferenceIdeal.Hand.offOf_at t (by omega) O ya rfl
  have hrb : Cert.ReferenceIdeal.Hand.offOf (t + 1) (by omega) O = O yb := Cert.ReferenceIdeal.Hand.offOf_at (t + 1) (by omega) O yb rfl
  unfold Cert.ReferenceIdeal.Hand.tenAt
  rw [hra, hrb]
  refine Eq.trans ?_ (Cert.ReferenceIdeal.Hand.tenOf_at _ _ _ _ _ _ prev r q).symm
  unfold addAt
  rw [hA n hn htn.symm, hB n hn htn.symm]
  by_cases h : Scalar.cmpi .sgt (O yb) (O ya) = 1#1
  · rw [if_pos ((cond_iff _ _ _).mpr h)]
    have h' : Scalar.cmpi .sgt (wB m hO c n) (wA m hO c n) = 1#1 := by rw [hA n hn htn.symm, hB n hn htn.symm]; exact h
    unfold SLOT DENSE Cert.KernelIdeal.Hand.denseAt Cert.KernelIdeal.Hand.XP
    rw [hA (n % 7) (by omega) (by omega), hB (n % 7) (by omega) (by omega), hX]
    have b3 := fun k => (Cert.KernelIdeal.Hand.iblk3 m hO c n hn h' k l ⟨t, ht⟩ htn q hq).trans (congrFun hDV _)
    have b4 := fun k l' (q' : Fin 5632) hq' => (Cert.KernelIdeal.Hand.iblk4 m hO c n hn h' k l' ⟨t, ht⟩ htn q' hq').trans (congrFun hDI _)
    have b5 := fun k => (Cert.KernelIdeal.Hand.iblk5 m hO c n hn h' k l ⟨t, ht⟩ htn q hq).trans (congrFun hDS _)
    refine (Cert.KernelIdeal.Hand.acc_at acc _ _ X _ _ _ ?_ r l).trans ?_
    · intro y
      obtain ⟨k, l', rfl⟩ : ∃ (k : Fin 256) (l' : Fin 512), y = ix3 (0 : Fin 1) k l' :=
        ⟨y 1, y 2, by funext a; fin_cases a <;> first | rfl | exact Subsingleton.elim (α := Fin 1) _ _⟩
      have hl := l'.isLt
      rw [b4 k l' ⟨512 * (n / 7) + l'.val, by omega⟩ rfl]
      exact hd _
    · rw [hp]
      refine congrArg (prev (ix2 r q) + ·) (Finset.sum_congr rfl fun k _ => ?_)
      rw [b3, b4 _ l q hq, b5, Cert.ReferenceIdeal.Hand.dvOf_at, Cert.ReferenceIdeal.Hand.diOf_at, Cert.ReferenceIdeal.Hand.dsOf_at, hcodes]
      rfl
  · rw [if_neg (fun hc => h ((cond_iff _ _ _).mp hc)), hp]
    refine Eq.symm ?_
    rw [Finset.sum_eq_zero fun k _ => by rw [sel_empty _ _ _ _ h]; exact zero_mul _]
    exact add_zero _

/-- The accumulated product after a point is the reference's sum over the tenants so far. -/
theorem acc_tens (hO : Ok m) (c : Dev Cert.KernelIdeal.nD) (X : Vec Ideal Cert.KernelIdeal.S128x2048 .bf16) (hX : iblk m hO c 0 (pt m hO 0) = X)
    (hcodes : Cert.KernelIdeal.Hand.codesOf X = Cert.ReferenceIdeal.Gen.k0_pay4 X)
    (DV : Vec Ideal Cert.KernelIdeal.S7x512x5632 .i8) (hDV : V m c Cert.KernelIdeal.main_arg3 = DV)
    (DI : Vec Ideal Cert.KernelIdeal.S7x256x5632 .i8) (hDI : V m c Cert.KernelIdeal.main_arg4 = DI)
    (DS : Vec Ideal Cert.KernelIdeal.S7x16x5632 .bf16) (hDS : V m c Cert.KernelIdeal.main_arg5 = DS)
    (O : Vec Ideal Cert.KernelIdeal.S8 .i32) (hOff : tbl m 0 = O)
    (hd : ∀ y, Nibble.Distinct (DI y)) (nb : ℕ) (hnb : nb < 11) (r : Fin 128) (l : Fin 512) (q : Fin 5632) (hq : q.val = 512 * nb + l.val) :
    ∀ (j : ℕ) (hj : j < 7), ACC m hO c (7 * nb + j) (ix2 r l) = Cert.ReferenceIdeal.Hand.tens X DV DI DS O (j + 1) hj (ix2 r q)
  | 0, hj => by
    refine (congrFun (Cert.KernelIdeal.Hand.acc_first m hO c (7 * nb + 0) (by omega)) (ix2 r l)).trans ?_
    refine addAt_at m hO c X hX hcodes DV hDV DI hDI DS hDS O hOff hd (7 * nb + 0) (by omega) 0 hj (by omega) r l q (by omega) _ _ ?_
    exact (Cert.KernelIdeal.Hand.zero_at r l).trans (Cert.ReferenceIdeal.Hand.zero_at r q).symm
  | j + 1, hj => by
    refine (congrFun (Cert.KernelIdeal.Hand.acc_succ m hO c (7 * nb + j) (by omega)) (ix2 r l)).trans ?_
    refine addAt_at m hO c X hX hcodes DV hDV DI hDI DS hDS O hOff hd (7 * nb + j + 1) (by omega) (j + 1) hj (by omega) r l q (by omega) _ _ ?_
    exact acc_tens hO c X hX hcodes DV hDV DI hDI DS hDS O hOff hd nb hnb r l q hq j (by omega)

/-- The tile of scales holds each row's scale. -/
theorem sc_at (X : Vec Ideal Cert.KernelIdeal.S128x2048 .bf16) (r : Fin 128) :
    Cert.KernelIdeal.Hand.scOf X (ix2 r (0 : Fin 128)) = Cert.KernelIdeal.Gen.k0_pay9 X (ix2 r (0 : Fin 1)) := by
  pointwise [Cert.KernelIdeal.Hand.scOf, Cert.KernelIdeal.Hand.colOf, Cert.KernelIdeal.Gen.k0_pay14, Cert.KernelIdeal.Gen.k0_pay13]

/-- The last step of an entry, from equal parts. -/
theorem mix {a a' s s' x x' d d' : EReal} (ha : a = a') (hs : s = s') (hx : x = x') (hd : d = d') : a * s * x + d * s = a' * s' * x' + d' * s' := by
  rw [ha, hs, hx, hd]

/-- The two programs' projections agree. -/
theorem y_eq (hO : Ok m) (c : Dev Cert.KernelIdeal.nD) (X : Vec Ideal Cert.KernelIdeal.S128x2048 .bf16) (hX : iblk m hO c 0 (pt m hO 0) = X) (hf : Finite X)
    (W : Vec Ideal Cert.KernelIdeal.S2048x5632 .fp8e4m3) (hW : V m c Cert.KernelIdeal.main_arg1 = W)
    (B : Vec Ideal Cert.KernelIdeal.S1x5632 .f32) (hB : V m c Cert.KernelIdeal.main_v1 = B)
    (DV : Vec Ideal Cert.KernelIdeal.S7x512x5632 .i8) (hDV : V m c Cert.KernelIdeal.main_arg3 = DV)
    (DI : Vec Ideal Cert.KernelIdeal.S7x256x5632 .i8) (hDI : V m c Cert.KernelIdeal.main_arg4 = DI)
    (DS : Vec Ideal Cert.KernelIdeal.S7x16x5632 .bf16) (hDS : V m c Cert.KernelIdeal.main_arg5 = DS)
    (O : Vec Ideal Cert.KernelIdeal.S8 .i32) (hOff : tbl m 0 = O) (hd : ∀ y, Nibble.Distinct (DI y)) :
    Cert.KernelIdeal.Hand.YALL m hO c = Cert.ReferenceIdeal.Hand.projOf X W B (Cert.ReferenceIdeal.Hand.tens X DV DI DS O 7 le_rfl) := by
  have hcodes := codes_eq X hf
  funext i
  obtain ⟨r, q, rfl⟩ : ∃ (r : Fin 128) (q : Fin 5632), i = ix2 r q := ⟨i 0, i 1, by funext a; fin_cases a <;> rfl⟩
  have hq := q.isLt
  obtain ⟨l, nb, hl⟩ : ∃ (l : Fin 512) (nb : ℕ), q.val = 512 * nb + l.val := ⟨⟨q.val % 512, Nat.mod_lt _ (by decide)⟩, q.val / 512, (Nat.div_add_mod _ _).symm⟩
  have hlt := l.isLt
  have hnb : nb < 11 := by omega
  refine (Cert.KernelIdeal.Hand.yall_at m hO c (ix2 r q) (7 * nb + 6) (by omega) r l rfl (by show q.val = _; omega)).trans ?_
  refine Eq.trans ?_ (Cert.ReferenceIdeal.Hand.projOf_at X W B _ r q).symm
  unfold YV Cert.KernelIdeal.Hand.SC
  refine (Cert.KernelIdeal.Hand.y_at _ _ _ _ r l).trans ?_
  refine mix ?_ ?_ ?_ ?_
  · refine (congrFun (Cert.KernelIdeal.Hand.base_col m hO c nb 6 (by omega)) (ix2 r l)).trans ?_
    refine (Cert.KernelIdeal.Hand.base_at _ _ r l).trans (Finset.sum_congr rfl fun k _ => ?_)
    refine congrArg₂ (fun a b : EReal => a * b) ?_ ((Cert.KernelIdeal.Hand.iblk1 m hO c (7 * nb) (by omega) k l q (by omega)).trans (congrFun hW _))
    refine congrFun (Eq.trans ?_ hcodes) (ix2 r k)
    exact congrArg Cert.KernelIdeal.Hand.codesOf hX
  · refine (congrFun (congrArg Cert.KernelIdeal.Hand.scOf hX) _).trans ((sc_at X r).trans (col_eq X hf r))
  · exact (Cert.KernelIdeal.Hand.iblk2 m hO c (7 * nb + 6) (by omega) l q (by omega)).trans (congrFun hB _)
  · exact acc_tens m hO c X hX hcodes DV hDV DI hDI DS hDS O hOff hd nb hnb r l q hl 6 (by omega)

end Cert.Values

end
-- ==== Proof.Agree.lean ====
/- The two programs' results compared: the projection, the codes and the scales are equal. -/

module

public import proofs.«01_k».proof.Defs
public import proofs.«01_k».proof.Proof.Gen.Pre_pre
public import proofs.«01_k».proof.Proof.Gen.KernelIdeal
public import proofs.«01_k».proof.Proof.Gen.ReferenceIdeal
public import proofs.«01_k».proof.Proof.KernelIdeal.Final
public import proofs.«01_k».proof.Proof.RefFinal
public import proofs.«01_k».proof.Proof.Assemble
public import Idealize.ShloMosaic.Lib.ReduceAll
public import Idealize.ShloMosaic.Lib.Pointwise

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The activations as a 128x2048 array. -/
def xs (c : Dev nD) : Vec F S128x2048 .bf16 := shapeCast S128x2048 (m ((c : Thread nD τ).loc main_arg0)) shapeCasts_S1x128x2048_S128x2048

/-- Every execution of the kernel leaves its projection, its codes and its scales, and changes no argument. -/
theorem run_results (hO : Ok m) : θ_run defs (onTc (τ := τ) (main (F := F))) ⟨m, fun _ => 0, ρ⟩ (fun r => ∀ c : Dev nD,
      r.2.mem ((c.tc : Thread nD τ).loc main_v2_0) = YALL m hO c
      ∧ r.2.mem ((c.tc : Thread nD τ).loc main_v2_1) = codesOf (xs m c)
      ∧ r.2.mem ((c.tc : Thread nD τ).loc main_v2_2) = scalesOf (xs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    have hx : iblk m hO c 0 (pt m hO 0) = xs m c := (iblk0 m hO c 0).trans (V_main_v0 m c)
    exact ⟨((h c).1 6).trans (y_arr m hO c),
      ((h c).1 7).trans ((codes_arr m hO c).trans (congrArg codesOf hx)),
      ((h c).1 8).trans ((scales_arr m hO c).trans (congrArg scalesOf hx)),
      ((h c).2 main_arg0 (by decide : main_arg0 ∈ Pipeline.restRefs sig spec0)).trans (V_main_arg0 m c),
      (Pipeline.FramePost.in_eq h c 1 rfl).trans ((tA_eq m hO c 1).trans (V_main_arg1 m c)),
      ((h c).2 main_arg2 (by decide : main_arg2 ∈ Pipeline.restRefs sig spec0)).trans (V_main_arg2 m c),
      (Pipeline.FramePost.in_eq h c 3 rfl).trans ((tA_eq m hO c 3).trans (V_main_arg3 m c)),
      (Pipeline.FramePost.in_eq h c 4 rfl).trans ((tA_eq m hO c 4).trans (V_main_arg4 m c)),
      (Pipeline.FramePost.in_eq h c 5 rfl).trans ((tA_eq m hO c 5).trans (V_main_arg5 m c)),
      ((h c).2 main_arg6 (by decide : main_arg6 ∈ Pipeline.restRefs sig spec0)).trans (V_main_arg6 m c)⟩) (run_named m ρ hO)

end Cert.KernelIdeal.Hand

namespace Cert.Values

open Idealize.ShloMosaic Idealize.ShloMosaic.TcCoe Idealize.SL.Sem

/-- The word the precondition makes of a byte says that the places of both pairs differ. -/
theorem byte_apart : ∀ w : BitVec 8,
    IntOp.andi (IntOp.cmpi .ne (IntOp.andi (w.zeroExtend 32) 3#32) (IntOp.andi (IntOp.shrsi .host (w.zeroExtend 32) 2#32) 3#32))
      (IntOp.cmpi .ne (IntOp.andi (IntOp.shrsi .host (w.zeroExtend 32) 4#32) 3#32) (IntOp.shrsi .host (w.zeroExtend 32) 6#32)) = 1#1 → Nibble.Distinct w := by
  decide +kernel

/-- The precondition, as its two parts. -/
theorem pre_parts (m : (ℓ : Loc Cert.KernelIdeal.nD Cert.KernelIdeal.τ Cert.KernelIdeal.sig) → Buf (Elt Ideal) ℓ)
    (h : Cert.Pre_KernelIdeal_pre m) (c : Dev Cert.KernelIdeal.nD) :
    Finite (Cert.KernelIdeal.Hand.xs m c) ∧ ∀ y, Nibble.Distinct (m ((c : Thread Cert.KernelIdeal.nD Cert.KernelIdeal.τ).loc Cert.KernelIdeal.main_arg4) y) := by
  have h0 := congrFun (h c) (Shape.Idx.first Cert.Pre_pre.Gen.facts.h_S_)
  unfold Cert.Pre_pre.fn Cert.Pre_pre.fn_part1 at h0
  have hand : ∀ p q : BitVec 1, IntOp.andi p q = 1#1 → p = 1#1 ∧ q = 1#1 := by decide
  obtain ⟨hl, hr⟩ := hand _ _ h0
  have hall := fun i => Host.reduce_andi_eq_one _ _ _ _ _ hl i (Subsingleton.elim _ _)
  have hapart := fun i => Host.reduce_andi_eq_one _ _ _ _ _ hr i (Subsingleton.elim _ _)
  constructor
  · intro r k
    obtain ⟨b, hb, hle⟩ := ofBits_max
    have hi : ∃ i, Cert.KernelIdeal.Hand.xs m c (ix2 r k) = m ((c : Thread Cert.KernelIdeal.nD Cert.KernelIdeal.τ).loc Cert.KernelIdeal.main_arg0) i := ⟨_, rfl⟩
    obtain ⟨i, hi⟩ := hi
    rw [hi]
    have := hall i
    pointwise at this
    have hb1 : ∀ q : Bool, BitVec.ofBool q = 1#1 → q = true := by decide
    have hd := of_decide_eq_true (hb1 _ this)
    exact le_trans (α := EReal) hd (hb.le.trans (EReal.coe_le_coe_iff.2 hle))
  · intro y
    have := hapart y
    exact byte_apart _ this

/-- The two programs' results agree, whenever the activations are finite and the places of each pair differ. -/
theorem agree : Cert.algebraic_KernelIdeal_ReferenceIdeal_pre_pre := by
  intro m g m' g' hpre hin
  have hO : Cert.KernelIdeal.Hand.Ok m := Cert.KernelIdeal.Hand.ok _
  refine ⟨fun c => Cert.KernelIdeal.Hand.YALL m hO c, fun c => Cert.KernelIdeal.Hand.codesOf (Cert.KernelIdeal.Hand.xs m c),
    fun c => Cert.KernelIdeal.Hand.scalesOf (Cert.KernelIdeal.Hand.xs m c), ?_, ?_⟩
  · exact Cert.KernelIdeal.Hand.run_results m g hO
  · refine (θ_run _ _ _).mono (fun r h c => ?_) (Cert.ReferenceIdeal.Value.run_blocks m' g')
    obtain ⟨h0, h1, h2, ha⟩ := h c
    obtain ⟨hf, hd⟩ := pre_parts m hpre c
    obtain ⟨i0, i1, i2, i3, i4, i5, i6⟩ := hin c
    have hx : Cert.ReferenceIdeal.Gen.iblk m' c 0 Cert.ReferenceIdeal.Hand.t0 = Cert.KernelIdeal.Hand.xs m c := by
      refine (Cert.ReferenceIdeal.Hand.iblk0 m' c).trans ((Cert.ReferenceIdeal.Hand.V_main_v0 m' c).trans ?_)
      exact congrArg (fun v => shapeCast Cert.KernelIdeal.S128x2048 v Cert.KernelIdeal.Gen.shapeCasts_S1x128x2048_S128x2048) i0
    have hb : Cert.ReferenceIdeal.Gen.iblk m' c 2 Cert.ReferenceIdeal.Hand.t0 = Cert.KernelIdeal.Hand.V m c Cert.KernelIdeal.main_v1 := by
      refine (Cert.ReferenceIdeal.Hand.iblk2 m' c).trans ((Cert.ReferenceIdeal.Hand.V_main_v1 m' c).trans (Eq.trans ?_ (Cert.KernelIdeal.Hand.V_main_v1 m c).symm))
      exact congrArg (fun v => shapeCast Cert.KernelIdeal.S1x5632 v Cert.KernelIdeal.Gen.shapeCasts_S5632_S1x5632) i2
    have hkx : Cert.KernelIdeal.Hand.iblk m hO c 0 (Cert.KernelIdeal.Hand.pt m hO 0) = Cert.KernelIdeal.Hand.xs m c :=
      (Cert.KernelIdeal.Hand.iblk0 m hO c 0).trans (Cert.KernelIdeal.Hand.V_main_v0 m c)
    have ht : Cert.KernelIdeal.Hand.tbl m 0 = m ((c.tc : Thread Cert.KernelIdeal.nD Cert.KernelIdeal.τ).loc Cert.KernelIdeal.main_arg6) :=
      (Cert.KernelIdeal.Hand.V_pre m c 0).symm.trans (Cert.KernelIdeal.Hand.V_main_arg6 m c)
    have e0 := y_eq m hO c _ hkx hf _ (Cert.KernelIdeal.Hand.V_main_arg1 m c) _ rfl _ (Cert.KernelIdeal.Hand.V_main_arg3 m c) _ (Cert.KernelIdeal.Hand.V_main_arg4 m c)
      _ (Cert.KernelIdeal.Hand.V_main_arg5 m c) _ ht hd
    have r0 := Cert.ReferenceIdeal.Hand.y_arr m' c _ hx _ ((Cert.ReferenceIdeal.Hand.iblk1 m' c).trans ((Cert.ReferenceIdeal.Gen.V_main_arg1 m' c).trans i1)) _ hb
      _ ((Cert.ReferenceIdeal.Hand.iblk3 m' c).trans ((Cert.ReferenceIdeal.Gen.V_main_arg3 m' c).trans i3))
      _ ((Cert.ReferenceIdeal.Hand.iblk4 m' c).trans ((Cert.ReferenceIdeal.Gen.V_main_arg4 m' c).trans i4))
      _ ((Cert.ReferenceIdeal.Hand.iblk5 m' c).trans ((Cert.ReferenceIdeal.Gen.V_main_arg5 m' c).trans i5))
      _ ((Cert.ReferenceIdeal.Hand.iblk6 m' c).trans ((Cert.ReferenceIdeal.Gen.V_main_arg6 m' c).trans i6))
    have e1 := h1.trans ((Cert.ReferenceIdeal.Hand.codes_arr m' c _ hx).trans (codes_eq _ hf).symm)
    have e2 := h2.trans ((Cert.ReferenceIdeal.Hand.scales_arr m' c _ hx).trans (scales_eq _ hf).symm)
    exact ⟨h0.trans (r0.trans e0.symm), e1, e2, ha⟩

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every execution of the two kernels and of the reference returns with the arguments unchanged and every
    semaphore at zero, and the kernel's results are the reference's. -/
theorem claim : Cert.Claim := ⟨Cert.Kernel.Gen.facts, Cert.KernelIdeal.Gen.facts, Cert.ReferenceIdeal.Gen.facts,
  Cert.Pre_pre.Gen.facts,
  fun m ρ _ => Cert.Kernel.Hand.frame_claim m ρ (Cert.Kernel.Hand.ok _),
  fun m ρ _ => Cert.KernelIdeal.Hand.frame_claim m ρ (Cert.KernelIdeal.Hand.ok _),
  fun m ρ _ => Cert.KernelIdeal.Hand.frame_claim m ρ (Cert.KernelIdeal.Hand.ok _),
  fun m ρ _ => Cert.ReferenceIdeal.Gen.frame m ρ,
  fun m ρ _ => Cert.ReferenceIdeal.Gen.frame m ρ, trivial, Cert.Values.agree⟩

end Cert.Proof

end
